-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x7168 : Shape := ⟨3, ![8, 2048, 7168]⟩
abbrev S8x2048x3584 : Shape := ⟨3, ![8, 2048, 3584]⟩
abbrev S8x2048x56 : Shape := ⟨3, ![8, 2048, 56]⟩
abbrev S8x7168x64 : Shape := ⟨3, ![8, 7168, 64]⟩
abbrev S8x56x2048 : Shape := ⟨3, ![8, 56, 2048]⟩
abbrev S8x64x7168 : Shape := ⟨3, ![8, 64, 7168]⟩
abbrev S8x64x2048 : Shape := ⟨3, ![8, 64, 2048]⟩
abbrev S1x256x7168 : Shape := ⟨3, ![1, 256, 7168]⟩
abbrev S1x256x3584 : Shape := ⟨3, ![1, 256, 3584]⟩
abbrev S1x56x256 : Shape := ⟨3, ![1, 56, 256]⟩
abbrev S1x64x7168 : Shape := ⟨3, ![1, 64, 7168]⟩
abbrev S1x64x256 : Shape := ⟨3, ![1, 64, 256]⟩
abbrev S11x7168x256 : Shape := ⟨3, ![11, 7168, 256]⟩
abbrev S56x256 : Shape := ⟨2, ![56, 256]⟩
abbrev S64x7168 : Shape := ⟨2, ![64, 7168]⟩
abbrev S64x256 : Shape := ⟨2, ![64, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S1x1x256 : Shape := ⟨3, ![1, 1, 256]⟩
abbrev S1x256 : Shape := ⟨2, ![1, 256]⟩
abbrev S8x2048x64 : Shape := ⟨3, ![8, 2048, 64]⟩

abbrev nBuf : Space → Nat
  | .hbm => 14
  | .vmem => 22
  | .smem => 0
  | _ => 0

abbrev bufTy : (tb : Table) → Fin (tcTables nBuf tb) → BufTy
  | .hbm, ⟨0, _⟩ => ⟨S8x2048x7168, .bf16⟩
  | .hbm, ⟨1, _⟩ => ⟨S8x2048x3584, .i8⟩
  | .hbm, ⟨2, _⟩ => ⟨S8x2048x56, .f32⟩
  | .hbm, ⟨3, _⟩ => ⟨S8x2048x56, .i8⟩
  | .hbm, ⟨4, _⟩ => ⟨S8x7168x64, .bf16⟩
  | .hbm, ⟨5, _⟩ => ⟨S8x56x2048, .f32⟩
  | .hbm, ⟨6, _⟩ => ⟨S8x56x2048, .i8⟩
  | .hbm, ⟨7, _⟩ => ⟨S8x64x7168, .bf16⟩
  | .hbm, ⟨8, _⟩ => ⟨S8x64x2048, .f32⟩
  | .hbm, ⟨9, _⟩ => ⟨S8x64x7168, .f32⟩
  | .hbm, ⟨10, _⟩ => ⟨S8x64x2048, .f32⟩
  | .hbm, ⟨11, _⟩ => ⟨S8x2048x64, .f32⟩
  | .hbm, ⟨12, _⟩ => ⟨S8x7168x64, .f32⟩
  | .hbm, ⟨13, _⟩ => ⟨S8x2048x64, .f32⟩
  | .local _ .vmem, ⟨0, _⟩ => ⟨S1x256x7168, .bf16⟩
  | .local _ .vmem, ⟨1, _⟩ => ⟨S1x256x7168, .bf16⟩
  | .local _ .vmem, ⟨2, _⟩ => ⟨S1x256x3584, .i8⟩
  | .local _ .vmem, ⟨3, _⟩ => ⟨S1x256x3584, .i8⟩
  | .local _ .vmem, ⟨4, _⟩ => ⟨S1x56x256, .f32⟩
  | .local _ .vmem, ⟨5, _⟩ => ⟨S1x56x256, .f32⟩
  | .local _ .vmem, ⟨6, _⟩ => ⟨S1x56x256, .i8⟩
  | .local _ .vmem, ⟨7, _⟩ => ⟨S1x56x256, .i8⟩
  | .local _ .vmem, ⟨8, _⟩ => ⟨S1x64x7168, .bf16⟩
  | .local _ .vmem, ⟨9, _⟩ => ⟨S1x64x7168, .bf16⟩
  | .local _ .vmem, ⟨10, _⟩ => ⟨S1x64x256, .f32⟩
  | .local _ .vmem, ⟨11, _⟩ => ⟨S1x64x256, .f32⟩
  | .local _ .vmem, ⟨12, _⟩ => ⟨S1x64x7168, .f32⟩
  | .local _ .vmem, ⟨13, _⟩ => ⟨S1x64x7168, .f32⟩
  | .local _ .vmem, ⟨14, _⟩ => ⟨S1x64x256, .f32⟩
  | .local _ .vmem, ⟨15, _⟩ => ⟨S1x64x256, .f32⟩
  | .local _ .vmem, ⟨16, _⟩ => ⟨S11x7168x256, .bf16⟩
  | .local _ .vmem, ⟨17, _⟩ => ⟨S56x256, .f32⟩
  | .local _ .vmem, ⟨18, _⟩ => ⟨S64x7168, .f32⟩
  | .local _ .vmem, ⟨19, _⟩ => ⟨S64x7168, .bf16⟩
  | .local _ .vmem, ⟨20, _⟩ => ⟨S64x256, .bf16⟩
  | .local _ .vmem, ⟨21, _⟩ => ⟨S64x256, .bf16⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![74], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c11_i32 : BitVec 32 := 11#32
  let v42 : BitVec 32 := Scalar.remsi arg0 c11_i32
  let v92 : Index := Scalar.indexCast v42
  let c0_32 : Index := 0#32
  let c0_33 : Index := 0#32
  ![v92.toNat, 0, 0]
def k0_off2 (i : grid0.Coords) : Fin 3 → Nat :=
  let arg0 : BitVec 32 := BitVec.ofNat 32 (i 0).val
  let c11_i32 : BitVec 32 := 11#32
  let v42 : BitVec 32 := Scalar.remsi arg0 c11_i32
  let v148 : Index := Scalar.indexCast v42
  let c256_52 : Index := 256#32
  let c0_53 : Index := 0#32
  ![v148.toNat, 256, 0]
def k0_off3 (i : grid0.Coords) : Fin 3 → Nat :=
  let arg0 : BitVec 32 := BitVec.ofNat 32 (i 0).val
  let c11_i32 : BitVec 32 := 11#32
  let v42 : BitVec 32 := Scalar.remsi arg0 c11_i32
  let v205 : Index := Scalar.indexCast v42
  let c512_74 : Index := 512#32
  let c0_75 : Index := 0#32
  ![v205.toNat, 512, 0]
def k0_off4 (i : grid0.Coords) : Fin 3 → Nat :=
  let arg0 : BitVec 32 := BitVec.ofNat 32 (i 0).val
  let c11_i32 : BitVec 32 := 11#32
  let v42 : BitVec 32 := Scalar.remsi arg0 c11_i32
  let v262 : Index := Scalar.indexCast v42
  let c768_95 : Index := 768#32
  let c0_96 : Index := 0#32
  ![v262.toNat, 768, 0]
def k0_off5 (i : grid0.Coords) : Fin 3 → Nat :=
  let arg0 : BitVec 32 := BitVec.ofNat 32 (i 0).val
  let c11_i32 : BitVec 32 := 11#32
  let v42 : BitVec 32 := Scalar.remsi arg0 c11_i32
  let v319 : Index := Scalar.indexCast v42
  let c1024_117 : Index := 1024#32
  let c0_118 : Index := 0#32
  ![v319.toNat, 1024, 0]
def k0_off6 (i : grid0.Coords) : Fin 3 → Nat :=
  let arg0 : BitVec 32 := BitVec.ofNat 32 (i 0).val
  let c11_i32 : BitVec 32 := 11#32
  let v42 : BitVec 32 := Scalar.remsi arg0 c11_i32
  let v376 : Index := Scalar.indexCast v42
  let c1280_138 : Index := 1280#32
  let c0_139 : Index := 0#32
  ![v376.toNat, 1280, 0]
def k0_off7 (i : grid0.Coords) : Fin 3 → Nat :=
  let arg0 : BitVec 32 := BitVec.ofNat 32 (i 0).val
  let c11_i32 : BitVec 32 := 11#32
  let v42 : BitVec 32 := Scalar.remsi arg0 c11_i32
  let v433 : Index := Scalar.indexCast v42
  let c1536_160 : Index := 1536#32
  let c0_161 : Index := 0#32
  ![v433.toNat, 1536, 0]
def k0_off8 (i : grid0.Coords) : Fin 3 → Nat :=
  let arg0 : BitVec 32 := BitVec.ofNat 32 (i 0).val
  let c11_i32 : BitVec 32 := 11#32
  let v42 : BitVec 32 := Scalar.remsi arg0 c11_i32
  let v490 : Index := Scalar.indexCast v42
  let c1792_181 : Index := 1792#32
  let c0_182 : Index := 0#32
  ![v490.toNat, 1792, 0]
def k0_off9 (i : grid0.Coords) : Fin 3 → Nat :=
  let arg0 : BitVec 32 := BitVec.ofNat 32 (i 0).val
  let c11_i32 : BitVec 32 := 11#32
  let v42 : BitVec 32 := Scalar.remsi arg0 c11_i32
  let v547 : Index := Scalar.indexCast v42
  let c2048_203 : Index := 2048#32
  let c0_204 : Index := 0#32
  ![v547.toNat, 2048, 0]
def k0_off10 (i : grid0.Coords) : Fin 3 → Nat :=
  let arg0 : BitVec 32 := BitVec.ofNat 32 (i 0).val
  let c11_i32 : BitVec 32 := 11#32
  let v42 : BitVec 32 := Scalar.remsi arg0 c11_i32
  let v604 : Index := Scalar.indexCast v42
  let c2304_224 : Index := 2304#32
  let c0_225 : Index := 0#32
  ![v604.toNat, 2304, 0]
def k0_off11 (i : grid0.Coords) : Fin 3 → Nat :=
  let arg0 : BitVec 32 := BitVec.ofNat 32 (i 0).val
  let c11_i32 : BitVec 32 := 11#32
  let v42 : BitVec 32 := Scalar.remsi arg0 c11_i32
  let v661 : Index := Scalar.indexCast v42
  let c2560_246 : Index := 2560#32
  let c0_247 : Index := 0#32
  ![v661.toNat, 2560, 0]
def k0_off12 (i : grid0.Coords) : Fin 3 → Nat :=
  let arg0 : BitVec 32 := BitVec.ofNat 32 (i 0).val
  let c11_i32 : BitVec 32 := 11#32
  let v42 : BitVec 32 := Scalar.remsi arg0 c11_i32
  let v718 : Index := Scalar.indexCast v42
  let c2816_267 : Index := 2816#32
  let c0_268 : Index := 0#32
  ![v718.toNat, 2816, 0]
def k0_off13 (i : grid0.Coords) : Fin 3 → Nat :=
  let arg0 : BitVec 32 := BitVec.ofNat 32 (i 0).val
  let c11_i32 : BitVec 32 := 11#32
  let v42 : BitVec 32 := Scalar.remsi arg0 c11_i32
  let v775 : Index := Scalar.indexCast v42
  let c3072_289 : Index := 3072#32
  let c0_290 : Index := 0#32
  ![v775.toNat, 3072, 0]
def k0_off14 (i : grid0.Coords) : Fin 3 → Nat :=
  let arg0 : BitVec 32 := BitVec.ofNat 32 (i 0).val
  let c11_i32 : BitVec 32 := 11#32
  let v42 : BitVec 32 := Scalar.remsi arg0 c11_i32
  let v832 : Index := Scalar.indexCast v42
  let c3328_310 : Index := 3328#32
  let c0_311 : Index := 0#32
  ![v832.toNat, 3328, 0]
def k0_off15 (i : grid0.Coords) : Fin 3 → Nat :=
  let arg0 : BitVec 32 := BitVec.ofNat 32 (i 0).val
  let c11_i32 : BitVec 32 := 11#32
  let v42 : BitVec 32 := Scalar.remsi arg0 c11_i32
  let v889 : Index := Scalar.indexCast v42
  let c3584_332 : Index := 3584#32
  let c0_333 : Index := 0#32
  ![v889.toNat, 3584, 0]
def k0_off16 (i : grid0.Coords) : Fin 3 → Nat :=
  let arg0 : BitVec 32 := BitVec.ofNat 32 (i 0).val
  let c11_i32 : BitVec 32 := 11#32
  let v42 : BitVec 32 := Scalar.remsi arg0 c11_i32
  let v946 : Index := Scalar.indexCast v42
  let c3840_353 : Index := 3840#32
  let c0_354 : Index := 0#32
  ![v946.toNat, 3840, 0]
def k0_off17 (i : grid0.Coords) : Fin 3 → Nat :=
  let arg0 : BitVec 32 := BitVec.ofNat 32 (i 0).val
  let c11_i32 : BitVec 32 := 11#32
  let v42 : BitVec 32 := Scalar.remsi arg0 c11_i32
  let v1003 : Index := Scalar.indexCast v42
  let c4096_375 : Index := 4096#32
  let c0_376 : Index := 0#32
  ![v1003.toNat, 4096, 0]
def k0_off18 (i : grid0.Coords) : Fin 3 → Nat :=
  let arg0 : BitVec 32 := BitVec.ofNat 32 (i 0).val
  let c11_i32 : BitVec 32 := 11#32
  let v42 : BitVec 32 := Scalar.remsi arg0 c11_i32
  let v1060 : Index := Scalar.indexCast v42
  let c4352_396 : Index := 4352#32
  let c0_397 : Index := 0#32
  ![v1060.toNat, 4352, 0]
def k0_off19 (i : grid0.Coords) : Fin 3 → Nat :=
  let arg0 : BitVec 32 := BitVec.ofNat 32 (i 0).val
  let c11_i32 : BitVec 32 := 11#32
  let v42 : BitVec 32 := Scalar.remsi arg0 c11_i32
  let v1117 : Index := Scalar.indexCast v42
  let c4608_418 : Index := 4608#32
  let c0_419 : Index := 0#32
  ![v1117.toNat, 4608, 0]
def k0_off20 (i : grid0.Coords) : Fin 3 → Nat :=
  let arg0 : BitVec 32 := BitVec.ofNat 32 (i 0).val
  let c11_i32 : BitVec 32 := 11#32
  let v42 : BitVec 32 := Scalar.remsi arg0 c11_i32
  let v1174 : Index := Scalar.indexCast v42
  let c4864_439 : Index := 4864#32
  let c0_440 : Index := 0#32
  ![v1174.toNat, 4864, 0]
def k0_off21 (i : grid0.Coords) : Fin 3 → Nat :=
  let arg0 : BitVec 32 := BitVec.ofNat 32 (i 0).val
  let c11_i32 : BitVec 32 := 11#32
  let v42 : BitVec 32 := Scalar.remsi arg0 c11_i32
  let v1231 : Index := Scalar.indexCast v42
  let c5120_461 : Index := 5120#32
  let c0_462 : Index := 0#32
  ![v1231.toNat, 5120, 0]
def k0_off22 (i : grid0.Coords) : Fin 3 → Nat :=
  let arg0 : BitVec 32 := BitVec.ofNat 32 (i 0).val
  let c11_i32 : BitVec 32 := 11#32
  let v42 : BitVec 32 := Scalar.remsi arg0 c11_i32
  let v1288 : Index := Scalar.indexCast v42
  let c5376_482 : Index := 5376#32
  let c0_483 : Index := 0#32
  ![v1288.toNat, 5376, 0]
def k0_off23 (i : grid0.Coords) : Fin 3 → Nat :=
  let arg0 : BitVec 32 := BitVec.ofNat 32 (i 0).val
  let c11_i32 : BitVec 32 := 11#32
  let v42 : BitVec 32 := Scalar.remsi arg0 c11_i32
  let v1345 : Index := Scalar.indexCast v42
  let c5632_504 : Index := 5632#32
  let c0_505 : Index := 0#32
  ![v1345.toNat, 5632, 0]
def k0_off24 (i : grid0.Coords) : Fin 3 → Nat :=
  let arg0 : BitVec 32 := BitVec.ofNat 32 (i 0).val
  let c11_i32 : BitVec 32 := 11#32
  let v42 : BitVec 32 := Scalar.remsi arg0 c11_i32
  let v1402 : Index := Scalar.indexCast v42
  let c5888_525 : Index := 5888#32
  let c0_526 : Index := 0#32
  ![v1402.toNat, 5888, 0]
def k0_off25 (i : grid0.Coords) : Fin 3 → Nat :=
  let arg0 : BitVec 32 := BitVec.ofNat 32 (i 0).val
  let c11_i32 : BitVec 32 := 11#32
  let v42 : BitVec 32 := Scalar.remsi arg0 c11_i32
  let v1459 : Index := Scalar.indexCast v42
  let c6144_547 : Index := 6144#32
  let c0_548 : Index := 0#32
  ![v1459.toNat, 6144, 0]
def k0_off26 (i : grid0.Coords) : Fin 3 → Nat :=
  let arg0 : BitVec 32 := BitVec.ofNat 32 (i 0).val
  let c11_i32 : BitVec 32 := 11#32
  let v42 : BitVec 32 := Scalar.remsi arg0 c11_i32
  let v1516 : Index := Scalar.indexCast v42
  let c6400_568 : Index := 6400#32
  let c0_569 : Index := 0#32
  ![v1516.toNat, 6400, 0]
def k0_off27 (i : grid0.Coords) : Fin 3 → Nat :=
  let arg0 : BitVec 32 := BitVec.ofNat 32 (i 0).val
  let c11_i32 : BitVec 32 := 11#32
  let v42 : BitVec 32 := Scalar.remsi arg0 c11_i32
  let v1573 : Index := Scalar.indexCast v42
  let c6656_590 : Index := 6656#32
  let c0_591 : Index := 0#32
  ![v1573.toNat, 6656, 0]
def k0_off28 (i : grid0.Coords) : Fin 3 → Nat :=
  let arg0 : BitVec 32 := BitVec.ofNat 32 (i 0).val
  let c11_i32 : BitVec 32 := 11#32
  let v42 : BitVec 32 := Scalar.remsi arg0 c11_i32
  let v1630 : Index := Scalar.indexCast v42
  let c6912_611 : Index := 6912#32
  let c0_612 : Index := 0#32
  ![v1630.toNat, 6912, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c9_i32 : BitVec 32 := 9#32
  let v4 : BitVec 1 := Scalar.cmpi .sle arg0 c9_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off29 (i : grid0.Coords) : Fin 3 → Nat :=
  let arg0 : BitVec 32 := BitVec.ofNat 32 (i 0).val
  let c11_i32 : BitVec 32 := 11#32
  let v42 : BitVec 32 := Scalar.remsi arg0 c11_i32
  let v97 : Index := Scalar.indexCast v42
  let c0_38 : Index := 0#32
  let c0_39 : Index := 0#32
  ![v97.toNat, 0, 0]
def k0_off30 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v104 : Index := Scalar.indexCast v44
  let c0_43 : Index := 0#32
  let c0_44 : Index := 0#32
  ![v104.toNat, 0, 0]
def k0_off31 (i : grid0.Coords) : Fin 3 → Nat :=
  let arg0 : BitVec 32 := BitVec.ofNat 32 (i 0).val
  let c11_i32 : BitVec 32 := 11#32
  let v42 : BitVec 32 := Scalar.remsi arg0 c11_i32
  let v164 : Index := Scalar.indexCast v42
  let c256_66 : Index := 256#32
  let c0_67 : Index := 0#32
  ![v164.toNat, 256, 0]
def k0_off32 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v172 : Index := Scalar.indexCast v44
  let c256_72 : Index := 256#32
  let c0_73 : Index := 0#32
  ![v172.toNat, 256, 0]
def k0_off33 (i : grid0.Coords) : Fin 3 → Nat :=
  let arg0 : BitVec 32 := BitVec.ofNat 32 (i 0).val
  let c11_i32 : BitVec 32 := 11#32
  let v42 : BitVec 32 := Scalar.remsi arg0 c11_i32
  let v232 : Index := Scalar.indexCast v42
  let c512_96 : Index := 512#32
  let c0_97 : Index := 0#32
  ![v232.toNat, 512, 0]
def k0_off34 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v240 : Index := Scalar.indexCast v44
  let c512_102 : Index := 512#32
  let c0_103 : Index := 0#32
  ![v240.toNat, 512, 0]
def k0_off35 (i : grid0.Coords) : Fin 3 → Nat :=
  let arg0 : BitVec 32 := BitVec.ofNat 32 (i 0).val
  let c11_i32 : BitVec 32 := 11#32
  let v42 : BitVec 32 := Scalar.remsi arg0 c11_i32
  let v300 : Index := Scalar.indexCast v42
  let c768_125 : Index := 768#32
  let c0_126 : Index := 0#32
  ![v300.toNat, 768, 0]
def k0_off36 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v308 : Index := Scalar.indexCast v44
  let c768_131 : Index := 768#32
  let c0_132 : Index := 0#32
  ![v308.toNat, 768, 0]
def k0_off37 (i : grid0.Coords) : Fin 3 → Nat :=
  let arg0 : BitVec 32 := BitVec.ofNat 32 (i 0).val
  let c11_i32 : BitVec 32 := 11#32
  let v42 : BitVec 32 := Scalar.remsi arg0 c11_i32
  let v368 : Index := Scalar.indexCast v42
  let c1024_155 : Index := 1024#32
  let c0_156 : Index := 0#32
  ![v368.toNat, 1024, 0]
def k0_off38 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v376 : Index := Scalar.indexCast v44
  let c1024_161 : Index := 1024#32
  let c0_162 : Index := 0#32
  ![v376.toNat, 1024, 0]
def k0_off39 (i : grid0.Coords) : Fin 3 → Nat :=
  let arg0 : BitVec 32 := BitVec.ofNat 32 (i 0).val
  let c11_i32 : BitVec 32 := 11#32
  let v42 : BitVec 32 := Scalar.remsi arg0 c11_i32
  let v436 : Index := Scalar.indexCast v42
  let c1280_184 : Index := 1280#32
  let c0_185 : Index := 0#32
  ![v436.toNat, 1280, 0]
def k0_off40 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v444 : Index := Scalar.indexCast v44
  let c1280_190 : Index := 1280#32
  let c0_191 : Index := 0#32
  ![v444.toNat, 1280, 0]
def k0_off41 (i : grid0.Coords) : Fin 3 → Nat :=
  let arg0 : BitVec 32 := BitVec.ofNat 32 (i 0).val
  let c11_i32 : BitVec 32 := 11#32
  let v42 : BitVec 32 := Scalar.remsi arg0 c11_i32
  let v504 : Index := Scalar.indexCast v42
  let c1536_214 : Index := 1536#32
  let c0_215 : Index := 0#32
  ![v504.toNat, 1536, 0]
def k0_off42 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v512 : Index := Scalar.indexCast v44
  let c1536_220 : Index := 1536#32
  let c0_221 : Index := 0#32
  ![v512.toNat, 1536, 0]
def k0_off43 (i : grid0.Coords) : Fin 3 → Nat :=
  let arg0 : BitVec 32 := BitVec.ofNat 32 (i 0).val
  let c11_i32 : BitVec 32 := 11#32
  let v42 : BitVec 32 := Scalar.remsi arg0 c11_i32
  let v572 : Index := Scalar.indexCast v42
  let c1792_243 : Index := 1792#32
  let c0_244 : Index := 0#32
  ![v572.toNat, 1792, 0]
def k0_off44 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v580 : Index := Scalar.indexCast v44
  let c1792_249 : Index := 1792#32
  let c0_250 : Index := 0#32
  ![v580.toNat, 1792, 0]
def k0_off45 (i : grid0.Coords) : Fin 3 → Nat :=
  let arg0 : BitVec 32 := BitVec.ofNat 32 (i 0).val
  let c11_i32 : BitVec 32 := 11#32
  let v42 : BitVec 32 := Scalar.remsi arg0 c11_i32
  let v640 : Index := Scalar.indexCast v42
  let c2048_273 : Index := 2048#32
  let c0_274 : Index := 0#32
  ![v640.toNat, 2048, 0]
def k0_off46 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v648 : Index := Scalar.indexCast v44
  let c2048_279 : Index := 2048#32
  let c0_280 : Index := 0#32
  ![v648.toNat, 2048, 0]
def k0_off47 (i : grid0.Coords) : Fin 3 → Nat :=
  let arg0 : BitVec 32 := BitVec.ofNat 32 (i 0).val
  let c11_i32 : BitVec 32 := 11#32
  let v42 : BitVec 32 := Scalar.remsi arg0 c11_i32
  let v708 : Index := Scalar.indexCast v42
  let c2304_302 : Index := 2304#32
  let c0_303 : Index := 0#32
  ![v708.toNat, 2304, 0]
def k0_off48 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v716 : Index := Scalar.indexCast v44
  let c2304_308 : Index := 2304#32
  let c0_309 : Index := 0#32
  ![v716.toNat, 2304, 0]
def k0_off49 (i : grid0.Coords) : Fin 3 → Nat :=
  let arg0 : BitVec 32 := BitVec.ofNat 32 (i 0).val
  let c11_i32 : BitVec 32 := 11#32
  let v42 : BitVec 32 := Scalar.remsi arg0 c11_i32
  let v776 : Index := Scalar.indexCast v42
  let c2560_332 : Index := 2560#32
  let c0_333 : Index := 0#32
  ![v776.toNat, 2560, 0]
def k0_off50 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v784 : Index := Scalar.indexCast v44
  let c2560_338 : Index := 2560#32
  let c0_339 : Index := 0#32
  ![v784.toNat, 2560, 0]
def k0_off51 (i : grid0.Coords) : Fin 3 → Nat :=
  let arg0 : BitVec 32 := BitVec.ofNat 32 (i 0).val
  let c11_i32 : BitVec 32 := 11#32
  let v42 : BitVec 32 := Scalar.remsi arg0 c11_i32
  let v844 : Index := Scalar.indexCast v42
  let c2816_361 : Index := 2816#32
  let c0_362 : Index := 0#32
  ![v844.toNat, 2816, 0]
def k0_off52 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v852 : Index := Scalar.indexCast v44
  let c2816_367 : Index := 2816#32
  let c0_368 : Index := 0#32
  ![v852.toNat, 2816, 0]
def k0_off53 (i : grid0.Coords) : Fin 3 → Nat :=
  let arg0 : BitVec 32 := BitVec.ofNat 32 (i 0).val
  let c11_i32 : BitVec 32 := 11#32
  let v42 : BitVec 32 := Scalar.remsi arg0 c11_i32
  let v912 : Index := Scalar.indexCast v42
  let c3072_391 : Index := 3072#32
  let c0_392 : Index := 0#32
  ![v912.toNat, 3072, 0]
def k0_off54 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v920 : Index := Scalar.indexCast v44
  let c3072_397 : Index := 3072#32
  let c0_398 : Index := 0#32
  ![v920.toNat, 3072, 0]
def k0_off55 (i : grid0.Coords) : Fin 3 → Nat :=
  let arg0 : BitVec 32 := BitVec.ofNat 32 (i 0).val
  let c11_i32 : BitVec 32 := 11#32
  let v42 : BitVec 32 := Scalar.remsi arg0 c11_i32
  let v980 : Index := Scalar.indexCast v42
  let c3328_420 : Index := 3328#32
  let c0_421 : Index := 0#32
  ![v980.toNat, 3328, 0]
def k0_off56 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v988 : Index := Scalar.indexCast v44
  let c3328_426 : Index := 3328#32
  let c0_427 : Index := 0#32
  ![v988.toNat, 3328, 0]
def k0_off57 (i : grid0.Coords) : Fin 3 → Nat :=
  let arg0 : BitVec 32 := BitVec.ofNat 32 (i 0).val
  let c11_i32 : BitVec 32 := 11#32
  let v42 : BitVec 32 := Scalar.remsi arg0 c11_i32
  let v1048 : Index := Scalar.indexCast v42
  let c3584_450 : Index := 3584#32
  let c0_451 : Index := 0#32
  ![v1048.toNat, 3584, 0]
def k0_off58 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1056 : Index := Scalar.indexCast v44
  let c3584_456 : Index := 3584#32
  let c0_457 : Index := 0#32
  ![v1056.toNat, 3584, 0]
def k0_off59 (i : grid0.Coords) : Fin 3 → Nat :=
  let arg0 : BitVec 32 := BitVec.ofNat 32 (i 0).val
  let c11_i32 : BitVec 32 := 11#32
  let v42 : BitVec 32 := Scalar.remsi arg0 c11_i32
  let v1116 : Index := Scalar.indexCast v42
  let c3840_479 : Index := 3840#32
  let c0_480 : Index := 0#32
  ![v1116.toNat, 3840, 0]
def k0_off60 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1124 : Index := Scalar.indexCast v44
  let c3840_485 : Index := 3840#32
  let c0_486 : Index := 0#32
  ![v1124.toNat, 3840, 0]
def k0_off61 (i : grid0.Coords) : Fin 3 → Nat :=
  let arg0 : BitVec 32 := BitVec.ofNat 32 (i 0).val
  let c11_i32 : BitVec 32 := 11#32
  let v42 : BitVec 32 := Scalar.remsi arg0 c11_i32
  let v1184 : Index := Scalar.indexCast v42
  let c4096_509 : Index := 4096#32
  let c0_510 : Index := 0#32
  ![v1184.toNat, 4096, 0]
def k0_off62 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1192 : Index := Scalar.indexCast v44
  let c4096_515 : Index := 4096#32
  let c0_516 : Index := 0#32
  ![v1192.toNat, 4096, 0]
def k0_off63 (i : grid0.Coords) : Fin 3 → Nat :=
  let arg0 : BitVec 32 := BitVec.ofNat 32 (i 0).val
  let c11_i32 : BitVec 32 := 11#32
  let v42 : BitVec 32 := Scalar.remsi arg0 c11_i32
  let v1252 : Index := Scalar.indexCast v42
  let c4352_538 : Index := 4352#32
  let c0_539 : Index := 0#32
  ![v1252.toNat, 4352, 0]
def k0_off64 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1260 : Index := Scalar.indexCast v44
  let c4352_544 : Index := 4352#32
  let c0_545 : Index := 0#32
  ![v1260.toNat, 4352, 0]
def k0_off65 (i : grid0.Coords) : Fin 3 → Nat :=
  let arg0 : BitVec 32 := BitVec.ofNat 32 (i 0).val
  let c11_i32 : BitVec 32 := 11#32
  let v42 : BitVec 32 := Scalar.remsi arg0 c11_i32
  let v1320 : Index := Scalar.indexCast v42
  let c4608_568 : Index := 4608#32
  let c0_569 : Index := 0#32
  ![v1320.toNat, 4608, 0]
def k0_off66 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1328 : Index := Scalar.indexCast v44
  let c4608_574 : Index := 4608#32
  let c0_575 : Index := 0#32
  ![v1328.toNat, 4608, 0]
def k0_off67 (i : grid0.Coords) : Fin 3 → Nat :=
  let arg0 : BitVec 32 := BitVec.ofNat 32 (i 0).val
  let c11_i32 : BitVec 32 := 11#32
  let v42 : BitVec 32 := Scalar.remsi arg0 c11_i32
  let v1388 : Index := Scalar.indexCast v42
  let c4864_597 : Index := 4864#32
  let c0_598 : Index := 0#32
  ![v1388.toNat, 4864, 0]
def k0_off68 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1396 : Index := Scalar.indexCast v44
  let c4864_603 : Index := 4864#32
  let c0_604 : Index := 0#32
  ![v1396.toNat, 4864, 0]
def k0_off69 (i : grid0.Coords) : Fin 3 → Nat :=
  let arg0 : BitVec 32 := BitVec.ofNat 32 (i 0).val
  let c11_i32 : BitVec 32 := 11#32
  let v42 : BitVec 32 := Scalar.remsi arg0 c11_i32
  let v1456 : Index := Scalar.indexCast v42
  let c5120_627 : Index := 5120#32
  let c0_628 : Index := 0#32
  ![v1456.toNat, 5120, 0]
def k0_off70 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1464 : Index := Scalar.indexCast v44
  let c5120_633 : Index := 5120#32
  let c0_634 : Index := 0#32
  ![v1464.toNat, 5120, 0]
def k0_off71 (i : grid0.Coords) : Fin 3 → Nat :=
  let arg0 : BitVec 32 := BitVec.ofNat 32 (i 0).val
  let c11_i32 : BitVec 32 := 11#32
  let v42 : BitVec 32 := Scalar.remsi arg0 c11_i32
  let v1524 : Index := Scalar.indexCast v42
  let c5376_656 : Index := 5376#32
  let c0_657 : Index := 0#32
  ![v1524.toNat, 5376, 0]
def k0_off72 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1532 : Index := Scalar.indexCast v44
  let c5376_662 : Index := 5376#32
  let c0_663 : Index := 0#32
  ![v1532.toNat, 5376, 0]
def k0_off73 (i : grid0.Coords) : Fin 3 → Nat :=
  let arg0 : BitVec 32 := BitVec.ofNat 32 (i 0).val
  let c11_i32 : BitVec 32 := 11#32
  let v42 : BitVec 32 := Scalar.remsi arg0 c11_i32
  let v1592 : Index := Scalar.indexCast v42
  let c5632_686 : Index := 5632#32
  let c0_687 : Index := 0#32
  ![v1592.toNat, 5632, 0]
def k0_off74 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1600 : Index := Scalar.indexCast v44
  let c5632_692 : Index := 5632#32
  let c0_693 : Index := 0#32
  ![v1600.toNat, 5632, 0]
def k0_off75 (i : grid0.Coords) : Fin 3 → Nat :=
  let arg0 : BitVec 32 := BitVec.ofNat 32 (i 0).val
  let c11_i32 : BitVec 32 := 11#32
  let v42 : BitVec 32 := Scalar.remsi arg0 c11_i32
  let v1660 : Index := Scalar.indexCast v42
  let c5888_715 : Index := 5888#32
  let c0_716 : Index := 0#32
  ![v1660.toNat, 5888, 0]
def k0_off76 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1668 : Index := Scalar.indexCast v44
  let c5888_721 : Index := 5888#32
  let c0_722 : Index := 0#32
  ![v1668.toNat, 5888, 0]
def k0_off77 (i : grid0.Coords) : Fin 3 → Nat :=
  let arg0 : BitVec 32 := BitVec.ofNat 32 (i 0).val
  let c11_i32 : BitVec 32 := 11#32
  let v42 : BitVec 32 := Scalar.remsi arg0 c11_i32
  let v1728 : Index := Scalar.indexCast v42
  let c6144_745 : Index := 6144#32
  let c0_746 : Index := 0#32
  ![v1728.toNat, 6144, 0]
def k0_off78 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1736 : Index := Scalar.indexCast v44
  let c6144_751 : Index := 6144#32
  let c0_752 : Index := 0#32
  ![v1736.toNat, 6144, 0]
def k0_off79 (i : grid0.Coords) : Fin 3 → Nat :=
  let arg0 : BitVec 32 := BitVec.ofNat 32 (i 0).val
  let c11_i32 : BitVec 32 := 11#32
  let v42 : BitVec 32 := Scalar.remsi arg0 c11_i32
  let v1796 : Index := Scalar.indexCast v42
  let c6400_774 : Index := 6400#32
  let c0_775 : Index := 0#32
  ![v1796.toNat, 6400, 0]
def k0_off80 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1804 : Index := Scalar.indexCast v44
  let c6400_780 : Index := 6400#32
  let c0_781 : Index := 0#32
  ![v1804.toNat, 6400, 0]
def k0_off81 (i : grid0.Coords) : Fin 3 → Nat :=
  let arg0 : BitVec 32 := BitVec.ofNat 32 (i 0).val
  let c11_i32 : BitVec 32 := 11#32
  let v42 : BitVec 32 := Scalar.remsi arg0 c11_i32
  let v1864 : Index := Scalar.indexCast v42
  let c6656_804 : Index := 6656#32
  let c0_805 : Index := 0#32
  ![v1864.toNat, 6656, 0]
def k0_off82 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1872 : Index := Scalar.indexCast v44
  let c6656_810 : Index := 6656#32
  let c0_811 : Index := 0#32
  ![v1872.toNat, 6656, 0]
def k0_off83 (i : grid0.Coords) : Fin 3 → Nat :=
  let arg0 : BitVec 32 := BitVec.ofNat 32 (i 0).val
  let c11_i32 : BitVec 32 := 11#32
  let v42 : BitVec 32 := Scalar.remsi arg0 c11_i32
  let v1932 : Index := Scalar.indexCast v42
  let c6912_833 : Index := 6912#32
  let c0_834 : Index := 0#32
  ![v1932.toNat, 6912, 0]
def k0_off84 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1940 : Index := Scalar.indexCast v44
  let c6912_839 : Index := 6912#32
  let c0_840 : Index := 0#32
  ![v1940.toNat, 6912, 0]
def k0_cond3 (i : grid0.Coords) : BitVec 1 :=
  let arg0 : BitVec 32 := BitVec.ofNat 32 (i 0).val
  let c10_i32 : BitVec 32 := 10#32
  let v8 : BitVec 1 := Scalar.cmpi .sge arg0 c10_i32
  let c63_i32 : BitVec 32 := 63#32
  let v9 : BitVec 1 := Scalar.cmpi .sle arg0 c63_i32
  let v10 : BitVec 1 := Scalar.andi v8 v9
  let v11 : BitVec 32 := Scalar.extui v10
  let c0_i32_2 : BitVec 32 := 0#32
  let v12 : BitVec 1 := Scalar.cmpi .ne v11 c0_i32_2
  v12

def k0_off85 (i : grid0.Coords) : Fin 3 → Nat :=
  let arg0 : BitVec 32 := BitVec.ofNat 32 (i 0).val
  let c11_i32 : BitVec 32 := 11#32
  let v42 : BitVec 32 := Scalar.remsi arg0 c11_i32
  let v106 : Index := Scalar.indexCast v42
  let c0_47 : Index := 0#32
  let c0_48 : Index := 0#32
  ![v106.toNat, 0, 0]
def k0_off86 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v113 : Index := Scalar.indexCast v44
  let c0_52 : Index := 0#32
  let c0_53 : Index := 0#32
  ![v113.toNat, 0, 0]
def k0_off87 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v125 : Index := Scalar.indexCast v50
  let c0_62 : Index := 0#32
  let c0_63 : Index := 0#32
  ![v125.toNat, 0, 0]
def k0_off88 (i : grid0.Coords) : Fin 3 → Nat :=
  let arg0 : BitVec 32 := BitVec.ofNat 32 (i 0).val
  let c11_i32 : BitVec 32 := 11#32
  let v42 : BitVec 32 := Scalar.remsi arg0 c11_i32
  let v190 : Index := Scalar.indexCast v42
  let c256_90 : Index := 256#32
  let c0_91 : Index := 0#32
  ![v190.toNat, 256, 0]
def k0_off89 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v198 : Index := Scalar.indexCast v44
  let c256_96 : Index := 256#32
  let c0_97 : Index := 0#32
  ![v198.toNat, 256, 0]
def k0_off90 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v210 : Index := Scalar.indexCast v50
  let c256_106 : Index := 256#32
  let c0_107 : Index := 0#32
  ![v210.toNat, 256, 0]
def k0_off91 (i : grid0.Coords) : Fin 3 → Nat :=
  let arg0 : BitVec 32 := BitVec.ofNat 32 (i 0).val
  let c11_i32 : BitVec 32 := 11#32
  let v42 : BitVec 32 := Scalar.remsi arg0 c11_i32
  let v276 : Index := Scalar.indexCast v42
  let c512_135 : Index := 512#32
  let c0_136 : Index := 0#32
  ![v276.toNat, 512, 0]
def k0_off92 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v284 : Index := Scalar.indexCast v44
  let c512_141 : Index := 512#32
  let c0_142 : Index := 0#32
  ![v284.toNat, 512, 0]
def k0_off93 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v296 : Index := Scalar.indexCast v50
  let c512_151 : Index := 512#32
  let c0_152 : Index := 0#32
  ![v296.toNat, 512, 0]
def k0_off94 (i : grid0.Coords) : Fin 3 → Nat :=
  let arg0 : BitVec 32 := BitVec.ofNat 32 (i 0).val
  let c11_i32 : BitVec 32 := 11#32
  let v42 : BitVec 32 := Scalar.remsi arg0 c11_i32
  let v362 : Index := Scalar.indexCast v42
  let c768_179 : Index := 768#32
  let c0_180 : Index := 0#32
  ![v362.toNat, 768, 0]
def k0_off95 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v370 : Index := Scalar.indexCast v44
  let c768_185 : Index := 768#32
  let c0_186 : Index := 0#32
  ![v370.toNat, 768, 0]
def k0_off96 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v382 : Index := Scalar.indexCast v50
  let c768_195 : Index := 768#32
  let c0_196 : Index := 0#32
  ![v382.toNat, 768, 0]
def k0_off97 (i : grid0.Coords) : Fin 3 → Nat :=
  let arg0 : BitVec 32 := BitVec.ofNat 32 (i 0).val
  let c11_i32 : BitVec 32 := 11#32
  let v42 : BitVec 32 := Scalar.remsi arg0 c11_i32
  let v448 : Index := Scalar.indexCast v42
  let c1024_224 : Index := 1024#32
  let c0_225 : Index := 0#32
  ![v448.toNat, 1024, 0]
def k0_off98 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v456 : Index := Scalar.indexCast v44
  let c1024_230 : Index := 1024#32
  let c0_231 : Index := 0#32
  ![v456.toNat, 1024, 0]
def k0_off99 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v468 : Index := Scalar.indexCast v50
  let c1024_240 : Index := 1024#32
  let c0_241 : Index := 0#32
  ![v468.toNat, 1024, 0]
def k0_off100 (i : grid0.Coords) : Fin 3 → Nat :=
  let arg0 : BitVec 32 := BitVec.ofNat 32 (i 0).val
  let c11_i32 : BitVec 32 := 11#32
  let v42 : BitVec 32 := Scalar.remsi arg0 c11_i32
  let v534 : Index := Scalar.indexCast v42
  let c1280_268 : Index := 1280#32
  let c0_269 : Index := 0#32
  ![v534.toNat, 1280, 0]
def k0_off101 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v542 : Index := Scalar.indexCast v44
  let c1280_274 : Index := 1280#32
  let c0_275 : Index := 0#32
  ![v542.toNat, 1280, 0]
def k0_off102 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v554 : Index := Scalar.indexCast v50
  let c1280_284 : Index := 1280#32
  let c0_285 : Index := 0#32
  ![v554.toNat, 1280, 0]
def k0_off103 (i : grid0.Coords) : Fin 3 → Nat :=
  let arg0 : BitVec 32 := BitVec.ofNat 32 (i 0).val
  let c11_i32 : BitVec 32 := 11#32
  let v42 : BitVec 32 := Scalar.remsi arg0 c11_i32
  let v620 : Index := Scalar.indexCast v42
  let c1536_313 : Index := 1536#32
  let c0_314 : Index := 0#32
  ![v620.toNat, 1536, 0]
def k0_off104 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v628 : Index := Scalar.indexCast v44
  let c1536_319 : Index := 1536#32
  let c0_320 : Index := 0#32
  ![v628.toNat, 1536, 0]
def k0_off105 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v640 : Index := Scalar.indexCast v50
  let c1536_329 : Index := 1536#32
  let c0_330 : Index := 0#32
  ![v640.toNat, 1536, 0]
def k0_off106 (i : grid0.Coords) : Fin 3 → Nat :=
  let arg0 : BitVec 32 := BitVec.ofNat 32 (i 0).val
  let c11_i32 : BitVec 32 := 11#32
  let v42 : BitVec 32 := Scalar.remsi arg0 c11_i32
  let v706 : Index := Scalar.indexCast v42
  let c1792_357 : Index := 1792#32
  let c0_358 : Index := 0#32
  ![v706.toNat, 1792, 0]
def k0_off107 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v714 : Index := Scalar.indexCast v44
  let c1792_363 : Index := 1792#32
  let c0_364 : Index := 0#32
  ![v714.toNat, 1792, 0]
def k0_off108 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v726 : Index := Scalar.indexCast v50
  let c1792_373 : Index := 1792#32
  let c0_374 : Index := 0#32
  ![v726.toNat, 1792, 0]
def k0_off109 (i : grid0.Coords) : Fin 3 → Nat :=
  let arg0 : BitVec 32 := BitVec.ofNat 32 (i 0).val
  let c11_i32 : BitVec 32 := 11#32
  let v42 : BitVec 32 := Scalar.remsi arg0 c11_i32
  let v792 : Index := Scalar.indexCast v42
  let c2048_402 : Index := 2048#32
  let c0_403 : Index := 0#32
  ![v792.toNat, 2048, 0]
def k0_off110 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v800 : Index := Scalar.indexCast v44
  let c2048_408 : Index := 2048#32
  let c0_409 : Index := 0#32
  ![v800.toNat, 2048, 0]
def k0_off111 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v812 : Index := Scalar.indexCast v50
  let c2048_418 : Index := 2048#32
  let c0_419 : Index := 0#32
  ![v812.toNat, 2048, 0]
def k0_off112 (i : grid0.Coords) : Fin 3 → Nat :=
  let arg0 : BitVec 32 := BitVec.ofNat 32 (i 0).val
  let c11_i32 : BitVec 32 := 11#32
  let v42 : BitVec 32 := Scalar.remsi arg0 c11_i32
  let v878 : Index := Scalar.indexCast v42
  let c2304_446 : Index := 2304#32
  let c0_447 : Index := 0#32
  ![v878.toNat, 2304, 0]
def k0_off113 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v886 : Index := Scalar.indexCast v44
  let c2304_452 : Index := 2304#32
  let c0_453 : Index := 0#32
  ![v886.toNat, 2304, 0]
def k0_off114 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v898 : Index := Scalar.indexCast v50
  let c2304_462 : Index := 2304#32
  let c0_463 : Index := 0#32
  ![v898.toNat, 2304, 0]
def k0_off115 (i : grid0.Coords) : Fin 3 → Nat :=
  let arg0 : BitVec 32 := BitVec.ofNat 32 (i 0).val
  let c11_i32 : BitVec 32 := 11#32
  let v42 : BitVec 32 := Scalar.remsi arg0 c11_i32
  let v964 : Index := Scalar.indexCast v42
  let c2560_491 : Index := 2560#32
  let c0_492 : Index := 0#32
  ![v964.toNat, 2560, 0]
def k0_off116 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v972 : Index := Scalar.indexCast v44
  let c2560_497 : Index := 2560#32
  let c0_498 : Index := 0#32
  ![v972.toNat, 2560, 0]
def k0_off117 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v984 : Index := Scalar.indexCast v50
  let c2560_507 : Index := 2560#32
  let c0_508 : Index := 0#32
  ![v984.toNat, 2560, 0]
def k0_off118 (i : grid0.Coords) : Fin 3 → Nat :=
  let arg0 : BitVec 32 := BitVec.ofNat 32 (i 0).val
  let c11_i32 : BitVec 32 := 11#32
  let v42 : BitVec 32 := Scalar.remsi arg0 c11_i32
  let v1050 : Index := Scalar.indexCast v42
  let c2816_535 : Index := 2816#32
  let c0_536 : Index := 0#32
  ![v1050.toNat, 2816, 0]
def k0_off119 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1058 : Index := Scalar.indexCast v44
  let c2816_541 : Index := 2816#32
  let c0_542 : Index := 0#32
  ![v1058.toNat, 2816, 0]
def k0_off120 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1070 : Index := Scalar.indexCast v50
  let c2816_551 : Index := 2816#32
  let c0_552 : Index := 0#32
  ![v1070.toNat, 2816, 0]
def k0_off121 (i : grid0.Coords) : Fin 3 → Nat :=
  let arg0 : BitVec 32 := BitVec.ofNat 32 (i 0).val
  let c11_i32 : BitVec 32 := 11#32
  let v42 : BitVec 32 := Scalar.remsi arg0 c11_i32
  let v1136 : Index := Scalar.indexCast v42
  let c3072_580 : Index := 3072#32
  let c0_581 : Index := 0#32
  ![v1136.toNat, 3072, 0]
def k0_off122 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1144 : Index := Scalar.indexCast v44
  let c3072_586 : Index := 3072#32
  let c0_587 : Index := 0#32
  ![v1144.toNat, 3072, 0]
def k0_off123 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1156 : Index := Scalar.indexCast v50
  let c3072_596 : Index := 3072#32
  let c0_597 : Index := 0#32
  ![v1156.toNat, 3072, 0]
def k0_off124 (i : grid0.Coords) : Fin 3 → Nat :=
  let arg0 : BitVec 32 := BitVec.ofNat 32 (i 0).val
  let c11_i32 : BitVec 32 := 11#32
  let v42 : BitVec 32 := Scalar.remsi arg0 c11_i32
  let v1222 : Index := Scalar.indexCast v42
  let c3328_624 : Index := 3328#32
  let c0_625 : Index := 0#32
  ![v1222.toNat, 3328, 0]
def k0_off125 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1230 : Index := Scalar.indexCast v44
  let c3328_630 : Index := 3328#32
  let c0_631 : Index := 0#32
  ![v1230.toNat, 3328, 0]
def k0_off126 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1242 : Index := Scalar.indexCast v50
  let c3328_640 : Index := 3328#32
  let c0_641 : Index := 0#32
  ![v1242.toNat, 3328, 0]
def k0_off127 (i : grid0.Coords) : Fin 3 → Nat :=
  let arg0 : BitVec 32 := BitVec.ofNat 32 (i 0).val
  let c11_i32 : BitVec 32 := 11#32
  let v42 : BitVec 32 := Scalar.remsi arg0 c11_i32
  let v1308 : Index := Scalar.indexCast v42
  let c3584_669 : Index := 3584#32
  let c0_670 : Index := 0#32
  ![v1308.toNat, 3584, 0]
def k0_off128 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1316 : Index := Scalar.indexCast v44
  let c3584_675 : Index := 3584#32
  let c0_676 : Index := 0#32
  ![v1316.toNat, 3584, 0]
def k0_off129 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1328 : Index := Scalar.indexCast v50
  let c3584_685 : Index := 3584#32
  let c0_686 : Index := 0#32
  ![v1328.toNat, 3584, 0]
def k0_off130 (i : grid0.Coords) : Fin 3 → Nat :=
  let arg0 : BitVec 32 := BitVec.ofNat 32 (i 0).val
  let c11_i32 : BitVec 32 := 11#32
  let v42 : BitVec 32 := Scalar.remsi arg0 c11_i32
  let v1394 : Index := Scalar.indexCast v42
  let c3840_713 : Index := 3840#32
  let c0_714 : Index := 0#32
  ![v1394.toNat, 3840, 0]
def k0_off131 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1402 : Index := Scalar.indexCast v44
  let c3840_719 : Index := 3840#32
  let c0_720 : Index := 0#32
  ![v1402.toNat, 3840, 0]
def k0_off132 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1414 : Index := Scalar.indexCast v50
  let c3840_729 : Index := 3840#32
  let c0_730 : Index := 0#32
  ![v1414.toNat, 3840, 0]
def k0_off133 (i : grid0.Coords) : Fin 3 → Nat :=
  let arg0 : BitVec 32 := BitVec.ofNat 32 (i 0).val
  let c11_i32 : BitVec 32 := 11#32
  let v42 : BitVec 32 := Scalar.remsi arg0 c11_i32
  let v1480 : Index := Scalar.indexCast v42
  let c4096_758 : Index := 4096#32
  let c0_759 : Index := 0#32
  ![v1480.toNat, 4096, 0]
def k0_off134 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1488 : Index := Scalar.indexCast v44
  let c4096_764 : Index := 4096#32
  let c0_765 : Index := 0#32
  ![v1488.toNat, 4096, 0]
def k0_off135 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1500 : Index := Scalar.indexCast v50
  let c4096_774 : Index := 4096#32
  let c0_775 : Index := 0#32
  ![v1500.toNat, 4096, 0]
def k0_off136 (i : grid0.Coords) : Fin 3 → Nat :=
  let arg0 : BitVec 32 := BitVec.ofNat 32 (i 0).val
  let c11_i32 : BitVec 32 := 11#32
  let v42 : BitVec 32 := Scalar.remsi arg0 c11_i32
  let v1566 : Index := Scalar.indexCast v42
  let c4352_802 : Index := 4352#32
  let c0_803 : Index := 0#32
  ![v1566.toNat, 4352, 0]
def k0_off137 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1574 : Index := Scalar.indexCast v44
  let c4352_808 : Index := 4352#32
  let c0_809 : Index := 0#32
  ![v1574.toNat, 4352, 0]
def k0_off138 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1586 : Index := Scalar.indexCast v50
  let c4352_818 : Index := 4352#32
  let c0_819 : Index := 0#32
  ![v1586.toNat, 4352, 0]
def k0_off139 (i : grid0.Coords) : Fin 3 → Nat :=
  let arg0 : BitVec 32 := BitVec.ofNat 32 (i 0).val
  let c11_i32 : BitVec 32 := 11#32
  let v42 : BitVec 32 := Scalar.remsi arg0 c11_i32
  let v1652 : Index := Scalar.indexCast v42
  let c4608_847 : Index := 4608#32
  let c0_848 : Index := 0#32
  ![v1652.toNat, 4608, 0]
def k0_off140 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1660 : Index := Scalar.indexCast v44
  let c4608_853 : Index := 4608#32
  let c0_854 : Index := 0#32
  ![v1660.toNat, 4608, 0]
def k0_off141 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1672 : Index := Scalar.indexCast v50
  let c4608_863 : Index := 4608#32
  let c0_864 : Index := 0#32
  ![v1672.toNat, 4608, 0]
def k0_off142 (i : grid0.Coords) : Fin 3 → Nat :=
  let arg0 : BitVec 32 := BitVec.ofNat 32 (i 0).val
  let c11_i32 : BitVec 32 := 11#32
  let v42 : BitVec 32 := Scalar.remsi arg0 c11_i32
  let v1738 : Index := Scalar.indexCast v42
  let c4864_891 : Index := 4864#32
  let c0_892 : Index := 0#32
  ![v1738.toNat, 4864, 0]
def k0_off143 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1746 : Index := Scalar.indexCast v44
  let c4864_897 : Index := 4864#32
  let c0_898 : Index := 0#32
  ![v1746.toNat, 4864, 0]
def k0_off144 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1758 : Index := Scalar.indexCast v50
  let c4864_907 : Index := 4864#32
  let c0_908 : Index := 0#32
  ![v1758.toNat, 4864, 0]
def k0_off145 (i : grid0.Coords) : Fin 3 → Nat :=
  let arg0 : BitVec 32 := BitVec.ofNat 32 (i 0).val
  let c11_i32 : BitVec 32 := 11#32
  let v42 : BitVec 32 := Scalar.remsi arg0 c11_i32
  let v1824 : Index := Scalar.indexCast v42
  let c5120_936 : Index := 5120#32
  let c0_937 : Index := 0#32
  ![v1824.toNat, 5120, 0]
def k0_off146 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1832 : Index := Scalar.indexCast v44
  let c5120_942 : Index := 5120#32
  let c0_943 : Index := 0#32
  ![v1832.toNat, 5120, 0]
def k0_off147 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1844 : Index := Scalar.indexCast v50
  let c5120_952 : Index := 5120#32
  let c0_953 : Index := 0#32
  ![v1844.toNat, 5120, 0]
def k0_off148 (i : grid0.Coords) : Fin 3 → Nat :=
  let arg0 : BitVec 32 := BitVec.ofNat 32 (i 0).val
  let c11_i32 : BitVec 32 := 11#32
  let v42 : BitVec 32 := Scalar.remsi arg0 c11_i32
  let v1910 : Index := Scalar.indexCast v42
  let c5376_980 : Index := 5376#32
  let c0_981 : Index := 0#32
  ![v1910.toNat, 5376, 0]
def k0_off149 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v1918 : Index := Scalar.indexCast v44
  let c5376_986 : Index := 5376#32
  let c0_987 : Index := 0#32
  ![v1918.toNat, 5376, 0]
def k0_off150 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v1930 : Index := Scalar.indexCast v50
  let c5376_996 : Index := 5376#32
  let c0_997 : Index := 0#32
  ![v1930.toNat, 5376, 0]
def k0_off151 (i : grid0.Coords) : Fin 3 → Nat :=
  let arg0 : BitVec 32 := BitVec.ofNat 32 (i 0).val
  let c11_i32 : BitVec 32 := 11#32
  let v42 : BitVec 32 := Scalar.remsi arg0 c11_i32
  let v1996 : Index := Scalar.indexCast v42
  let c5632_1025 : Index := 5632#32
  let c0_1026 : Index := 0#32
  ![v1996.toNat, 5632, 0]
def k0_off152 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v2004 : Index := Scalar.indexCast v44
  let c5632_1031 : Index := 5632#32
  let c0_1032 : Index := 0#32
  ![v2004.toNat, 5632, 0]
def k0_off153 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v2016 : Index := Scalar.indexCast v50
  let c5632_1041 : Index := 5632#32
  let c0_1042 : Index := 0#32
  ![v2016.toNat, 5632, 0]
def k0_off154 (i : grid0.Coords) : Fin 3 → Nat :=
  let arg0 : BitVec 32 := BitVec.ofNat 32 (i 0).val
  let c11_i32 : BitVec 32 := 11#32
  let v42 : BitVec 32 := Scalar.remsi arg0 c11_i32
  let v2082 : Index := Scalar.indexCast v42
  let c5888_1069 : Index := 5888#32
  let c0_1070 : Index := 0#32
  ![v2082.toNat, 5888, 0]
def k0_off155 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v2090 : Index := Scalar.indexCast v44
  let c5888_1075 : Index := 5888#32
  let c0_1076 : Index := 0#32
  ![v2090.toNat, 5888, 0]
def k0_off156 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v2102 : Index := Scalar.indexCast v50
  let c5888_1085 : Index := 5888#32
  let c0_1086 : Index := 0#32
  ![v2102.toNat, 5888, 0]
def k0_off157 (i : grid0.Coords) : Fin 3 → Nat :=
  let arg0 : BitVec 32 := BitVec.ofNat 32 (i 0).val
  let c11_i32 : BitVec 32 := 11#32
  let v42 : BitVec 32 := Scalar.remsi arg0 c11_i32
  let v2168 : Index := Scalar.indexCast v42
  let c6144_1114 : Index := 6144#32
  let c0_1115 : Index := 0#32
  ![v2168.toNat, 6144, 0]
def k0_off158 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v2176 : Index := Scalar.indexCast v44
  let c6144_1120 : Index := 6144#32
  let c0_1121 : Index := 0#32
  ![v2176.toNat, 6144, 0]
def k0_off159 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v2188 : Index := Scalar.indexCast v50
  let c6144_1130 : Index := 6144#32
  let c0_1131 : Index := 0#32
  ![v2188.toNat, 6144, 0]
def k0_off160 (i : grid0.Coords) : Fin 3 → Nat :=
  let arg0 : BitVec 32 := BitVec.ofNat 32 (i 0).val
  let c11_i32 : BitVec 32 := 11#32
  let v42 : BitVec 32 := Scalar.remsi arg0 c11_i32
  let v2254 : Index := Scalar.indexCast v42
  let c6400_1158 : Index := 6400#32
  let c0_1159 : Index := 0#32
  ![v2254.toNat, 6400, 0]
def k0_off161 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v2262 : Index := Scalar.indexCast v44
  let c6400_1164 : Index := 6400#32
  let c0_1165 : Index := 0#32
  ![v2262.toNat, 6400, 0]
def k0_off162 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v2274 : Index := Scalar.indexCast v50
  let c6400_1174 : Index := 6400#32
  let c0_1175 : Index := 0#32
  ![v2274.toNat, 6400, 0]
def k0_off163 (i : grid0.Coords) : Fin 3 → Nat :=
  let arg0 : BitVec 32 := BitVec.ofNat 32 (i 0).val
  let c11_i32 : BitVec 32 := 11#32
  let v42 : BitVec 32 := Scalar.remsi arg0 c11_i32
  let v2340 : Index := Scalar.indexCast v42
  let c6656_1203 : Index := 6656#32
  let c0_1204 : Index := 0#32
  ![v2340.toNat, 6656, 0]
def k0_off164 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v2348 : Index := Scalar.indexCast v44
  let c6656_1209 : Index := 6656#32
  let c0_1210 : Index := 0#32
  ![v2348.toNat, 6656, 0]
def k0_off165 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v2360 : Index := Scalar.indexCast v50
  let c6656_1219 : Index := 6656#32
  let c0_1220 : Index := 0#32
  ![v2360.toNat, 6656, 0]
def k0_off166 (i : grid0.Coords) : Fin 3 → Nat :=
  let arg0 : BitVec 32 := BitVec.ofNat 32 (i 0).val
  let c11_i32 : BitVec 32 := 11#32
  let v42 : BitVec 32 := Scalar.remsi arg0 c11_i32
  let v2426 : Index := Scalar.indexCast v42
  let c6912_1247 : Index := 6912#32
  let c0_1248 : Index := 0#32
  ![v2426.toNat, 6912, 0]
def k0_off167 (i : grid0.Coords) : Fin 3 → Nat :=
  let arg0 : BitVec 32 := BitVec.ofNat 32 (i 0).val
  let c1_i32_16 : BitVec 32 := 1#32
  let v43 : BitVec 32 := Scalar.subi arg0 c1_i32_16
  let c11_i32_17 : BitVec 32 := 11#32
  let v44 : BitVec 32 := Scalar.remsi v43 c11_i32_17
  let v2434 : Index := Scalar.indexCast v44
  let c6912_1253 : Index := 6912#32
  let c0_1254 : Index := 0#32
  ![v2434.toNat, 6912, 0]
def k0_off168 (i : grid0.Coords) (c1_i32_23 : BitVec 32) : Fin 3 → Nat :=
  let arg0 : BitVec 32 := BitVec.ofNat 32 (i 0).val
  let c8_i32_22 : BitVec 32 := 8#32
  let v48 : BitVec 32 := Scalar.subi arg0 c8_i32_22
  let v49 : BitVec 32 := Scalar.subi v48 c1_i32_23
  let c11_i32_24 : BitVec 32 := 11#32
  let v50 : BitVec 32 := Scalar.remsi v49 c11_i32_24
  let v2446 : Index := Scalar.indexCast v50
  let c6912_1263 : Index := 6912#32
  let c0_1264 : Index := 0#32
  ![v2446.toNat, 6912, 0]
def k0_cond4 (i : grid0.Coords) : BitVec 1 :=
  let arg0 : BitVec 32 := BitVec.ofNat 32 (i 0).val
  let c64_i32 : BitVec 32 := 64#32
  let v13 : BitVec 1 := Scalar.cmpi .eq arg0 c64_i32
  let v14 : BitVec 32 := Scalar.extui v13
  let c0_i32_3 : BitVec 32 := 0#32
  let v15 : BitVec 1 := Scalar.cmpi .ne v14 c0_i32_3
  v15

def k0_off169 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v46 : Index := Scalar.indexCast v36
  let c0_22 : Index := 0#32
  let c0_23 : Index := 0#32
  ![v46.toNat, 0, 0]
def k0_off170 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v57 : Index := Scalar.indexCast v42
  let c0_29 : Index := 0#32
  let c0_30 : Index := 0#32
  ![v57.toNat, 0, 0]
def k0_off171 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v69 : Index := Scalar.indexCast v36
  let c256 : Index := 256#32
  let c0_39 : Index := 0#32
  ![v69.toNat, 256, 0]
def k0_off172 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v80 : Index := Scalar.indexCast v42
  let c256_46 : Index := 256#32
  let c0_47 : Index := 0#32
  ![v80.toNat, 256, 0]
def k0_off173 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v92 : Index := Scalar.indexCast v36
  let c512 : Index := 512#32
  let c0_56 : Index := 0#32
  ![v92.toNat, 512, 0]
def k0_off174 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v103 : Index := Scalar.indexCast v42
  let c512_63 : Index := 512#32
  let c0_64 : Index := 0#32
  ![v103.toNat, 512, 0]
def k0_off175 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v115 : Index := Scalar.indexCast v36
  let c768 : Index := 768#32
  let c0_73 : Index := 0#32
  ![v115.toNat, 768, 0]
def k0_off176 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v126 : Index := Scalar.indexCast v42
  let c768_80 : Index := 768#32
  let c0_81 : Index := 0#32
  ![v126.toNat, 768, 0]
def k0_off177 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v138 : Index := Scalar.indexCast v36
  let c1024 : Index := 1024#32
  let c0_90 : Index := 0#32
  ![v138.toNat, 1024, 0]
def k0_off178 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v149 : Index := Scalar.indexCast v42
  let c1024_97 : Index := 1024#32
  let c0_98 : Index := 0#32
  ![v149.toNat, 1024, 0]
def k0_off179 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v161 : Index := Scalar.indexCast v36
  let c1280 : Index := 1280#32
  let c0_107 : Index := 0#32
  ![v161.toNat, 1280, 0]
def k0_off180 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v172 : Index := Scalar.indexCast v42
  let c1280_114 : Index := 1280#32
  let c0_115 : Index := 0#32
  ![v172.toNat, 1280, 0]
def k0_off181 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v184 : Index := Scalar.indexCast v36
  let c1536 : Index := 1536#32
  let c0_124 : Index := 0#32
  ![v184.toNat, 1536, 0]
def k0_off182 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v195 : Index := Scalar.indexCast v42
  let c1536_131 : Index := 1536#32
  let c0_132 : Index := 0#32
  ![v195.toNat, 1536, 0]
def k0_off183 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v207 : Index := Scalar.indexCast v36
  let c1792 : Index := 1792#32
  let c0_141 : Index := 0#32
  ![v207.toNat, 1792, 0]
def k0_off184 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v218 : Index := Scalar.indexCast v42
  let c1792_148 : Index := 1792#32
  let c0_149 : Index := 0#32
  ![v218.toNat, 1792, 0]
def k0_off185 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v230 : Index := Scalar.indexCast v36
  let c2048 : Index := 2048#32
  let c0_158 : Index := 0#32
  ![v230.toNat, 2048, 0]
def k0_off186 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v241 : Index := Scalar.indexCast v42
  let c2048_165 : Index := 2048#32
  let c0_166 : Index := 0#32
  ![v241.toNat, 2048, 0]
def k0_off187 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v253 : Index := Scalar.indexCast v36
  let c2304 : Index := 2304#32
  let c0_175 : Index := 0#32
  ![v253.toNat, 2304, 0]
def k0_off188 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v264 : Index := Scalar.indexCast v42
  let c2304_182 : Index := 2304#32
  let c0_183 : Index := 0#32
  ![v264.toNat, 2304, 0]
def k0_off189 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v276 : Index := Scalar.indexCast v36
  let c2560 : Index := 2560#32
  let c0_192 : Index := 0#32
  ![v276.toNat, 2560, 0]
def k0_off190 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v287 : Index := Scalar.indexCast v42
  let c2560_199 : Index := 2560#32
  let c0_200 : Index := 0#32
  ![v287.toNat, 2560, 0]
def k0_off191 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v299 : Index := Scalar.indexCast v36
  let c2816 : Index := 2816#32
  let c0_209 : Index := 0#32
  ![v299.toNat, 2816, 0]
def k0_off192 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v310 : Index := Scalar.indexCast v42
  let c2816_216 : Index := 2816#32
  let c0_217 : Index := 0#32
  ![v310.toNat, 2816, 0]
def k0_off193 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v322 : Index := Scalar.indexCast v36
  let c3072 : Index := 3072#32
  let c0_226 : Index := 0#32
  ![v322.toNat, 3072, 0]
def k0_off194 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v333 : Index := Scalar.indexCast v42
  let c3072_233 : Index := 3072#32
  let c0_234 : Index := 0#32
  ![v333.toNat, 3072, 0]
def k0_off195 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v345 : Index := Scalar.indexCast v36
  let c3328 : Index := 3328#32
  let c0_243 : Index := 0#32
  ![v345.toNat, 3328, 0]
def k0_off196 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v356 : Index := Scalar.indexCast v42
  let c3328_250 : Index := 3328#32
  let c0_251 : Index := 0#32
  ![v356.toNat, 3328, 0]
def k0_off197 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v368 : Index := Scalar.indexCast v36
  let c3584 : Index := 3584#32
  let c0_260 : Index := 0#32
  ![v368.toNat, 3584, 0]
def k0_off198 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v379 : Index := Scalar.indexCast v42
  let c3584_267 : Index := 3584#32
  let c0_268 : Index := 0#32
  ![v379.toNat, 3584, 0]
def k0_off199 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v391 : Index := Scalar.indexCast v36
  let c3840 : Index := 3840#32
  let c0_277 : Index := 0#32
  ![v391.toNat, 3840, 0]
def k0_off200 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v402 : Index := Scalar.indexCast v42
  let c3840_284 : Index := 3840#32
  let c0_285 : Index := 0#32
  ![v402.toNat, 3840, 0]
def k0_off201 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v414 : Index := Scalar.indexCast v36
  let c4096 : Index := 4096#32
  let c0_294 : Index := 0#32
  ![v414.toNat, 4096, 0]
def k0_off202 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v425 : Index := Scalar.indexCast v42
  let c4096_301 : Index := 4096#32
  let c0_302 : Index := 0#32
  ![v425.toNat, 4096, 0]
def k0_off203 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v437 : Index := Scalar.indexCast v36
  let c4352 : Index := 4352#32
  let c0_311 : Index := 0#32
  ![v437.toNat, 4352, 0]
def k0_off204 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v448 : Index := Scalar.indexCast v42
  let c4352_318 : Index := 4352#32
  let c0_319 : Index := 0#32
  ![v448.toNat, 4352, 0]
def k0_off205 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v460 : Index := Scalar.indexCast v36
  let c4608 : Index := 4608#32
  let c0_328 : Index := 0#32
  ![v460.toNat, 4608, 0]
def k0_off206 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v471 : Index := Scalar.indexCast v42
  let c4608_335 : Index := 4608#32
  let c0_336 : Index := 0#32
  ![v471.toNat, 4608, 0]
def k0_off207 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v483 : Index := Scalar.indexCast v36
  let c4864 : Index := 4864#32
  let c0_345 : Index := 0#32
  ![v483.toNat, 4864, 0]
def k0_off208 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v494 : Index := Scalar.indexCast v42
  let c4864_352 : Index := 4864#32
  let c0_353 : Index := 0#32
  ![v494.toNat, 4864, 0]
def k0_off209 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v506 : Index := Scalar.indexCast v36
  let c5120 : Index := 5120#32
  let c0_362 : Index := 0#32
  ![v506.toNat, 5120, 0]
def k0_off210 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v517 : Index := Scalar.indexCast v42
  let c5120_369 : Index := 5120#32
  let c0_370 : Index := 0#32
  ![v517.toNat, 5120, 0]
def k0_off211 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v529 : Index := Scalar.indexCast v36
  let c5376 : Index := 5376#32
  let c0_379 : Index := 0#32
  ![v529.toNat, 5376, 0]
def k0_off212 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v540 : Index := Scalar.indexCast v42
  let c5376_386 : Index := 5376#32
  let c0_387 : Index := 0#32
  ![v540.toNat, 5376, 0]
def k0_off213 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v552 : Index := Scalar.indexCast v36
  let c5632 : Index := 5632#32
  let c0_396 : Index := 0#32
  ![v552.toNat, 5632, 0]
def k0_off214 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v563 : Index := Scalar.indexCast v42
  let c5632_403 : Index := 5632#32
  let c0_404 : Index := 0#32
  ![v563.toNat, 5632, 0]
def k0_off215 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v575 : Index := Scalar.indexCast v36
  let c5888 : Index := 5888#32
  let c0_413 : Index := 0#32
  ![v575.toNat, 5888, 0]
def k0_off216 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v586 : Index := Scalar.indexCast v42
  let c5888_420 : Index := 5888#32
  let c0_421 : Index := 0#32
  ![v586.toNat, 5888, 0]
def k0_off217 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v598 : Index := Scalar.indexCast v36
  let c6144 : Index := 6144#32
  let c0_430 : Index := 0#32
  ![v598.toNat, 6144, 0]
def k0_off218 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v609 : Index := Scalar.indexCast v42
  let c6144_437 : Index := 6144#32
  let c0_438 : Index := 0#32
  ![v609.toNat, 6144, 0]
def k0_off219 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v621 : Index := Scalar.indexCast v36
  let c6400 : Index := 6400#32
  let c0_447 : Index := 0#32
  ![v621.toNat, 6400, 0]
def k0_off220 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v632 : Index := Scalar.indexCast v42
  let c6400_454 : Index := 6400#32
  let c0_455 : Index := 0#32
  ![v632.toNat, 6400, 0]
def k0_off221 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v644 : Index := Scalar.indexCast v36
  let c6656 : Index := 6656#32
  let c0_464 : Index := 0#32
  ![v644.toNat, 6656, 0]
def k0_off222 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v655 : Index := Scalar.indexCast v42
  let c6656_471 : Index := 6656#32
  let c0_472 : Index := 0#32
  ![v655.toNat, 6656, 0]
def k0_off223 (i : grid0.Coords) : Fin 3 → Nat :=
  let arg0 : BitVec 32 := BitVec.ofNat 32 (i 0).val
  let c1_i32_12 : BitVec 32 := 1#32
  let v35 : BitVec 32 := Scalar.subi arg0 c1_i32_12
  let c11_i32 : BitVec 32 := 11#32
  let v36 : BitVec 32 := Scalar.remsi v35 c11_i32
  let v667 : Index := Scalar.indexCast v36
  let c6912 : Index := 6912#32
  let c0_481 : Index := 0#32
  ![v667.toNat, 6912, 0]
def k0_off224 (i : grid0.Coords) : Fin 3 → Nat :=
  let arg0 : BitVec 32 := BitVec.ofNat 32 (i 0).val
  let c8_i32_16 : BitVec 32 := 8#32
  let v40 : BitVec 32 := Scalar.subi arg0 c8_i32_16
  let c2_i32 : BitVec 32 := 2#32
  let v41 : BitVec 32 := Scalar.subi v40 c2_i32
  let c11_i32_17 : BitVec 32 := 11#32
  let v42 : BitVec 32 := Scalar.remsi v41 c11_i32_17
  let v678 : Index := Scalar.indexCast v42
  let c6912_488 : Index := 6912#32
  let c0_489 : Index := 0#32
  ![v678.toNat, 6912, 0]
def k0_cond5 (i : grid0.Coords) : BitVec 1 :=
  let arg0 : BitVec 32 := BitVec.ofNat 32 (i 0).val
  let c9_i32_4 : BitVec 32 := 9#32
  let v16 : BitVec 1 := Scalar.cmpi .eq arg0 c9_i32_4
  let c64_i32_5 : BitVec 32 := 64#32
  let v17 : BitVec 1 := Scalar.cmpi .eq arg0 c64_i32_5
  let v18 : BitVec 1 := Scalar.ori v16 v17
  let v19 : BitVec 32 := Scalar.extui v18
  let c0_i32_6 : BitVec 32 := 0#32
  let v20 : BitVec 1 := Scalar.cmpi .ne v19 c0_i32_6
  v20

def k0_off225 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v39 : Index := Scalar.indexCast v37
  let c0_15 : Index := 0#32
  let c0_16 : Index := 0#32
  ![v39.toNat, 0, 0]
def k0_off226 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v44 : Index := Scalar.indexCast v37
  let c256_18 : Index := 256#32
  let c0_19 : Index := 0#32
  ![v44.toNat, 256, 0]
def k0_off227 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v50 : Index := Scalar.indexCast v37
  let c512_22 : Index := 512#32
  let c0_23 : Index := 0#32
  ![v50.toNat, 512, 0]
def k0_off228 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v56 : Index := Scalar.indexCast v37
  let c768_26 : Index := 768#32
  let c0_27 : Index := 0#32
  ![v56.toNat, 768, 0]
def k0_off229 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v62 : Index := Scalar.indexCast v37
  let c1024_30 : Index := 1024#32
  let c0_31 : Index := 0#32
  ![v62.toNat, 1024, 0]
def k0_off230 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v68 : Index := Scalar.indexCast v37
  let c1280_34 : Index := 1280#32
  let c0_35 : Index := 0#32
  ![v68.toNat, 1280, 0]
def k0_off231 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v74 : Index := Scalar.indexCast v37
  let c1536_38 : Index := 1536#32
  let c0_39 : Index := 0#32
  ![v74.toNat, 1536, 0]
def k0_off232 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v80 : Index := Scalar.indexCast v37
  let c1792_42 : Index := 1792#32
  let c0_43 : Index := 0#32
  ![v80.toNat, 1792, 0]
def k0_off233 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v86 : Index := Scalar.indexCast v37
  let c2048_46 : Index := 2048#32
  let c0_47 : Index := 0#32
  ![v86.toNat, 2048, 0]
def k0_off234 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v92 : Index := Scalar.indexCast v37
  let c2304_50 : Index := 2304#32
  let c0_51 : Index := 0#32
  ![v92.toNat, 2304, 0]
def k0_off235 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v98 : Index := Scalar.indexCast v37
  let c2560_54 : Index := 2560#32
  let c0_55 : Index := 0#32
  ![v98.toNat, 2560, 0]
def k0_off236 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v104 : Index := Scalar.indexCast v37
  let c2816_58 : Index := 2816#32
  let c0_59 : Index := 0#32
  ![v104.toNat, 2816, 0]
def k0_off237 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v110 : Index := Scalar.indexCast v37
  let c3072_62 : Index := 3072#32
  let c0_63 : Index := 0#32
  ![v110.toNat, 3072, 0]
def k0_off238 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v116 : Index := Scalar.indexCast v37
  let c3328_66 : Index := 3328#32
  let c0_67 : Index := 0#32
  ![v116.toNat, 3328, 0]
def k0_off239 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v122 : Index := Scalar.indexCast v37
  let c3584_70 : Index := 3584#32
  let c0_71 : Index := 0#32
  ![v122.toNat, 3584, 0]
def k0_off240 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v128 : Index := Scalar.indexCast v37
  let c3840_74 : Index := 3840#32
  let c0_75 : Index := 0#32
  ![v128.toNat, 3840, 0]
def k0_off241 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v134 : Index := Scalar.indexCast v37
  let c4096_78 : Index := 4096#32
  let c0_79 : Index := 0#32
  ![v134.toNat, 4096, 0]
def k0_off242 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v140 : Index := Scalar.indexCast v37
  let c4352_82 : Index := 4352#32
  let c0_83 : Index := 0#32
  ![v140.toNat, 4352, 0]
def k0_off243 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v146 : Index := Scalar.indexCast v37
  let c4608_86 : Index := 4608#32
  let c0_87 : Index := 0#32
  ![v146.toNat, 4608, 0]
def k0_off244 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v152 : Index := Scalar.indexCast v37
  let c4864_90 : Index := 4864#32
  let c0_91 : Index := 0#32
  ![v152.toNat, 4864, 0]
def k0_off245 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v158 : Index := Scalar.indexCast v37
  let c5120_94 : Index := 5120#32
  let c0_95 : Index := 0#32
  ![v158.toNat, 5120, 0]
def k0_off246 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v164 : Index := Scalar.indexCast v37
  let c5376_98 : Index := 5376#32
  let c0_99 : Index := 0#32
  ![v164.toNat, 5376, 0]
def k0_off247 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v170 : Index := Scalar.indexCast v37
  let c5632_102 : Index := 5632#32
  let c0_103 : Index := 0#32
  ![v170.toNat, 5632, 0]
def k0_off248 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v176 : Index := Scalar.indexCast v37
  let c5888_106 : Index := 5888#32
  let c0_107 : Index := 0#32
  ![v176.toNat, 5888, 0]
def k0_off249 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v182 : Index := Scalar.indexCast v37
  let c6144_110 : Index := 6144#32
  let c0_111 : Index := 0#32
  ![v182.toNat, 6144, 0]
def k0_off250 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v188 : Index := Scalar.indexCast v37
  let c6400_114 : Index := 6400#32
  let c0_115 : Index := 0#32
  ![v188.toNat, 6400, 0]
def k0_off251 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v194 : Index := Scalar.indexCast v37
  let c6656_118 : Index := 6656#32
  let c0_119 : Index := 0#32
  ![v194.toNat, 6656, 0]
def k0_off252 (i : grid0.Coords) : Fin 3 → Nat :=
  let arg0 : BitVec 32 := BitVec.ofNat 32 (i 0).val
  let c8_i32_12 : BitVec 32 := 8#32
  let v35 : BitVec 32 := Scalar.subi arg0 c8_i32_12
  let c1_i32_13 : BitVec 32 := 1#32
  let v36 : BitVec 32 := Scalar.subi v35 c1_i32_13
  let c11_i32 : BitVec 32 := 11#32
  let v37 : BitVec 32 := Scalar.remsi v36 c11_i32
  let v200 : Index := Scalar.indexCast v37
  let c6912_122 : Index := 6912#32
  let c0_123 : Index := 0#32
  ![v200.toNat, 6912, 0]
def k0_cond6 (i : grid0.Coords) : BitVec 1 :=
  let arg0 : BitVec 32 := BitVec.ofNat 32 (i 0).val
  let c65_i32 : BitVec 32 := 65#32
  let v21 : BitVec 1 := Scalar.cmpi .sge arg0 c65_i32
  let c72_i32 : BitVec 32 := 72#32
  let v22 : BitVec 1 := Scalar.cmpi .sle arg0 c72_i32
  let v23 : BitVec 1 := Scalar.andi v21 v22
  let v24 : BitVec 32 := Scalar.extui v23
  let c0_i32_7 : BitVec 32 := 0#32
  let v25 : BitVec 1 := Scalar.cmpi .ne v24 c0_i32_7
  v25

def k0_off253 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v45 : Index := Scalar.indexCast v37
  let c0_21 : Index := 0#32
  let c0_22 : Index := 0#32
  ![v45.toNat, 0, 0]
def k0_off254 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v62 : Index := Scalar.indexCast v37
  let c256_34 : Index := 256#32
  let c0_35 : Index := 0#32
  ![v62.toNat, 256, 0]
def k0_off255 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v80 : Index := Scalar.indexCast v37
  let c512_48 : Index := 512#32
  let c0_49 : Index := 0#32
  ![v80.toNat, 512, 0]
def k0_off256 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v98 : Index := Scalar.indexCast v37
  let c768_62 : Index := 768#32
  let c0_63 : Index := 0#32
  ![v98.toNat, 768, 0]
def k0_off257 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v116 : Index := Scalar.indexCast v37
  let c1024_76 : Index := 1024#32
  let c0_77 : Index := 0#32
  ![v116.toNat, 1024, 0]
def k0_off258 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v134 : Index := Scalar.indexCast v37
  let c1280_90 : Index := 1280#32
  let c0_91 : Index := 0#32
  ![v134.toNat, 1280, 0]
def k0_off259 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v152 : Index := Scalar.indexCast v37
  let c1536_104 : Index := 1536#32
  let c0_105 : Index := 0#32
  ![v152.toNat, 1536, 0]
def k0_off260 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v170 : Index := Scalar.indexCast v37
  let c1792_118 : Index := 1792#32
  let c0_119 : Index := 0#32
  ![v170.toNat, 1792, 0]
def k0_off261 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v188 : Index := Scalar.indexCast v37
  let c2048_132 : Index := 2048#32
  let c0_133 : Index := 0#32
  ![v188.toNat, 2048, 0]
def k0_off262 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v206 : Index := Scalar.indexCast v37
  let c2304_146 : Index := 2304#32
  let c0_147 : Index := 0#32
  ![v206.toNat, 2304, 0]
def k0_off263 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v224 : Index := Scalar.indexCast v37
  let c2560_160 : Index := 2560#32
  let c0_161 : Index := 0#32
  ![v224.toNat, 2560, 0]
def k0_off264 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v242 : Index := Scalar.indexCast v37
  let c2816_174 : Index := 2816#32
  let c0_175 : Index := 0#32
  ![v242.toNat, 2816, 0]
def k0_off265 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v260 : Index := Scalar.indexCast v37
  let c3072_188 : Index := 3072#32
  let c0_189 : Index := 0#32
  ![v260.toNat, 3072, 0]
def k0_off266 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v278 : Index := Scalar.indexCast v37
  let c3328_202 : Index := 3328#32
  let c0_203 : Index := 0#32
  ![v278.toNat, 3328, 0]
def k0_off267 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v296 : Index := Scalar.indexCast v37
  let c3584_216 : Index := 3584#32
  let c0_217 : Index := 0#32
  ![v296.toNat, 3584, 0]
def k0_off268 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v314 : Index := Scalar.indexCast v37
  let c3840_230 : Index := 3840#32
  let c0_231 : Index := 0#32
  ![v314.toNat, 3840, 0]
def k0_off269 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v332 : Index := Scalar.indexCast v37
  let c4096_244 : Index := 4096#32
  let c0_245 : Index := 0#32
  ![v332.toNat, 4096, 0]
def k0_off270 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v350 : Index := Scalar.indexCast v37
  let c4352_258 : Index := 4352#32
  let c0_259 : Index := 0#32
  ![v350.toNat, 4352, 0]
def k0_off271 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v368 : Index := Scalar.indexCast v37
  let c4608_272 : Index := 4608#32
  let c0_273 : Index := 0#32
  ![v368.toNat, 4608, 0]
def k0_off272 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v386 : Index := Scalar.indexCast v37
  let c4864_286 : Index := 4864#32
  let c0_287 : Index := 0#32
  ![v386.toNat, 4864, 0]
def k0_off273 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v404 : Index := Scalar.indexCast v37
  let c5120_300 : Index := 5120#32
  let c0_301 : Index := 0#32
  ![v404.toNat, 5120, 0]
def k0_off274 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v422 : Index := Scalar.indexCast v37
  let c5376_314 : Index := 5376#32
  let c0_315 : Index := 0#32
  ![v422.toNat, 5376, 0]
def k0_off275 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v440 : Index := Scalar.indexCast v37
  let c5632_328 : Index := 5632#32
  let c0_329 : Index := 0#32
  ![v440.toNat, 5632, 0]
def k0_off276 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v458 : Index := Scalar.indexCast v37
  let c5888_342 : Index := 5888#32
  let c0_343 : Index := 0#32
  ![v458.toNat, 5888, 0]
def k0_off277 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v476 : Index := Scalar.indexCast v37
  let c6144_356 : Index := 6144#32
  let c0_357 : Index := 0#32
  ![v476.toNat, 6144, 0]
def k0_off278 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v494 : Index := Scalar.indexCast v37
  let c6400_370 : Index := 6400#32
  let c0_371 : Index := 0#32
  ![v494.toNat, 6400, 0]
def k0_off279 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v512 : Index := Scalar.indexCast v37
  let c6656_384 : Index := 6656#32
  let c0_385 : Index := 0#32
  ![v512.toNat, 6656, 0]
def k0_off280 (i : grid0.Coords) (c1_i32_13 : BitVec 32) : Fin 3 → Nat :=
  let arg0 : BitVec 32 := BitVec.ofNat 32 (i 0).val
  let c8_i32_12 : BitVec 32 := 8#32
  let v35 : BitVec 32 := Scalar.subi arg0 c8_i32_12
  let v36 : BitVec 32 := Scalar.subi v35 c1_i32_13
  let c11_i32 : BitVec 32 := 11#32
  let v37 : BitVec 32 := Scalar.remsi v36 c11_i32
  let v530 : Index := Scalar.indexCast v37
  let c6912_398 : Index := 6912#32
  let c0_399 : Index := 0#32
  ![v530.toNat, 6912, 0]
def k0_cond7 (i : grid0.Coords) : BitVec 1 :=
  let arg0 : BitVec 32 := BitVec.ofNat 32 (i 0).val
  let c73_i32 : BitVec 32 := 73#32
  let v26 : BitVec 1 := Scalar.cmpi .eq arg0 c73_i32
  let v27 : BitVec 32 := Scalar.extui v26
  let c0_i32_8 : BitVec 32 := 0#32
  let v28 : BitVec 1 := Scalar.cmpi .ne v27 c0_i32_8
  v28

def k0_off281 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v41 : Index := Scalar.indexCast v37
  let c0_16 : Index := 0#32
  let c0_17 : Index := 0#32
  ![v41.toNat, 0, 0]
def k0_off282 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v53 : Index := Scalar.indexCast v37
  let c256 : Index := 256#32
  let c0_25 : Index := 0#32
  ![v53.toNat, 256, 0]
def k0_off283 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v65 : Index := Scalar.indexCast v37
  let c512 : Index := 512#32
  let c0_34 : Index := 0#32
  ![v65.toNat, 512, 0]
def k0_off284 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v77 : Index := Scalar.indexCast v37
  let c768 : Index := 768#32
  let c0_43 : Index := 0#32
  ![v77.toNat, 768, 0]
def k0_off285 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v89 : Index := Scalar.indexCast v37
  let c1024 : Index := 1024#32
  let c0_52 : Index := 0#32
  ![v89.toNat, 1024, 0]
def k0_off286 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v101 : Index := Scalar.indexCast v37
  let c1280 : Index := 1280#32
  let c0_61 : Index := 0#32
  ![v101.toNat, 1280, 0]
def k0_off287 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v113 : Index := Scalar.indexCast v37
  let c1536 : Index := 1536#32
  let c0_70 : Index := 0#32
  ![v113.toNat, 1536, 0]
def k0_off288 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v125 : Index := Scalar.indexCast v37
  let c1792 : Index := 1792#32
  let c0_79 : Index := 0#32
  ![v125.toNat, 1792, 0]
def k0_off289 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v137 : Index := Scalar.indexCast v37
  let c2048 : Index := 2048#32
  let c0_88 : Index := 0#32
  ![v137.toNat, 2048, 0]
def k0_off290 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v149 : Index := Scalar.indexCast v37
  let c2304 : Index := 2304#32
  let c0_97 : Index := 0#32
  ![v149.toNat, 2304, 0]
def k0_off291 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v161 : Index := Scalar.indexCast v37
  let c2560 : Index := 2560#32
  let c0_106 : Index := 0#32
  ![v161.toNat, 2560, 0]
def k0_off292 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v173 : Index := Scalar.indexCast v37
  let c2816 : Index := 2816#32
  let c0_115 : Index := 0#32
  ![v173.toNat, 2816, 0]
def k0_off293 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v185 : Index := Scalar.indexCast v37
  let c3072 : Index := 3072#32
  let c0_124 : Index := 0#32
  ![v185.toNat, 3072, 0]
def k0_off294 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v197 : Index := Scalar.indexCast v37
  let c3328 : Index := 3328#32
  let c0_133 : Index := 0#32
  ![v197.toNat, 3328, 0]
def k0_off295 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v209 : Index := Scalar.indexCast v37
  let c3584 : Index := 3584#32
  let c0_142 : Index := 0#32
  ![v209.toNat, 3584, 0]
def k0_off296 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v221 : Index := Scalar.indexCast v37
  let c3840 : Index := 3840#32
  let c0_151 : Index := 0#32
  ![v221.toNat, 3840, 0]
def k0_off297 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v233 : Index := Scalar.indexCast v37
  let c4096 : Index := 4096#32
  let c0_160 : Index := 0#32
  ![v233.toNat, 4096, 0]
def k0_off298 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v245 : Index := Scalar.indexCast v37
  let c4352 : Index := 4352#32
  let c0_169 : Index := 0#32
  ![v245.toNat, 4352, 0]
def k0_off299 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v257 : Index := Scalar.indexCast v37
  let c4608 : Index := 4608#32
  let c0_178 : Index := 0#32
  ![v257.toNat, 4608, 0]
def k0_off300 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v269 : Index := Scalar.indexCast v37
  let c4864 : Index := 4864#32
  let c0_187 : Index := 0#32
  ![v269.toNat, 4864, 0]
def k0_off301 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v281 : Index := Scalar.indexCast v37
  let c5120 : Index := 5120#32
  let c0_196 : Index := 0#32
  ![v281.toNat, 5120, 0]
def k0_off302 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v293 : Index := Scalar.indexCast v37
  let c5376 : Index := 5376#32
  let c0_205 : Index := 0#32
  ![v293.toNat, 5376, 0]
def k0_off303 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v305 : Index := Scalar.indexCast v37
  let c5632 : Index := 5632#32
  let c0_214 : Index := 0#32
  ![v305.toNat, 5632, 0]
def k0_off304 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v317 : Index := Scalar.indexCast v37
  let c5888 : Index := 5888#32
  let c0_223 : Index := 0#32
  ![v317.toNat, 5888, 0]
def k0_off305 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v329 : Index := Scalar.indexCast v37
  let c6144 : Index := 6144#32
  let c0_232 : Index := 0#32
  ![v329.toNat, 6144, 0]
def k0_off306 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v341 : Index := Scalar.indexCast v37
  let c6400 : Index := 6400#32
  let c0_241 : Index := 0#32
  ![v341.toNat, 6400, 0]
def k0_off307 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v353 : Index := Scalar.indexCast v37
  let c6656 : Index := 6656#32
  let c0_250 : Index := 0#32
  ![v353.toNat, 6656, 0]
def k0_off308 (i : grid0.Coords) : Fin 3 → Nat :=
  let arg0 : BitVec 32 := BitVec.ofNat 32 (i 0).val
  let c8_i32_12 : BitVec 32 := 8#32
  let v35 : BitVec 32 := Scalar.subi arg0 c8_i32_12
  let c2_i32 : BitVec 32 := 2#32
  let v36 : BitVec 32 := Scalar.subi v35 c2_i32
  let c11_i32 : BitVec 32 := 11#32
  let v37 : BitVec 32 := Scalar.remsi v36 c11_i32
  let v365 : Index := Scalar.indexCast v37
  let c6912 : Index := 6912#32
  let c0_259 : Index := 0#32
  ![v365.toNat, 6912, 0]
def cc0_transform_0 (i : grid0.Coords) : Fin 3 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_1 (i : grid0.Coords) : Fin 3 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_2 (i : grid0.Coords) : Fin 3 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_3 (i : grid0.Coords) : Fin 3 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_4 (i : grid0.Coords) : Fin 3 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v18.toNat, c0_i32_11.toNat, c0_i32_12.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c8_i32_0 : BitVec 32 := 8#32
  let v4 : BitVec 32 := Scalar.divsi v3 c8_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c8_i32_0 c0_i32_3
  let v11 : BitVec 32 := Scalar.extui v10
  let c0_i32_4 : BitVec 32 := 0#32
  let v12 : BitVec 1 := Scalar.cmpi .slt c8_i32_0 c0_i32_4
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c8_i32_7 : BitVec 32 := 8#32
  let c0_i32_8 : BitVec 32 := 0#32
  let v21 : BitVec 1 := Scalar.cmpi .eq c8_i32_7 c0_i32_8
  let c1_i32_9 : BitVec 32 := 1#32
  let v22 : BitVec 32 := Scalar.select v21 c1_i32_9 c8_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v20.toNat, c0_i32_13.toNat, v30.toNat]

def cc0_transform_6 (i : grid0.Coords) : Fin 3 → Nat :=
  let arg0 : BitVec 32 := BitVec.ofNat 32 (i 0).val
  let c8_i32 : BitVec 32 := 8#32
  let v0 : BitVec 32 := Scalar.subi arg0 c8_i32
  let c2_i32 : BitVec 32 := 2#32
  let v1 : BitVec 32 := Scalar.subi v0 c2_i32
  let c0_i32 : BitVec 32 := 0#32
  let c63_i32 : BitVec 32 := 63#32
  let v2 : BitVec 32 := Scalar.maxsi c0_i32 v1
  let v3 : BitVec 32 := Scalar.minsi c63_i32 v2
  let c8_i32_0 : BitVec 32 := 8#32
  let v4 : BitVec 32 := Scalar.divsi v3 c8_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c8_i32_0 c0_i32_3
  let v11 : BitVec 32 := Scalar.extui v10
  let c0_i32_4 : BitVec 32 := 0#32
  let v12 : BitVec 1 := Scalar.cmpi .slt c8_i32_0 c0_i32_4
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, c0_i32_12.toNat, c0_i32_13.toNat]

def cc0_transform_7 (i : grid0.Coords) : Fin 3 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x56x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x56x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x2048x7168 : Shape := ⟨3, ![8, 2048, 7168]⟩
abbrev S8x2048x3584 : Shape := ⟨3, ![8, 2048, 3584]⟩
abbrev S8x2048x56 : Shape := ⟨3, ![8, 2048, 56]⟩
abbrev S8x7168x64 : Shape := ⟨3, ![8, 7168, 64]⟩
abbrev S2 : Shape := ⟨1, ![2]⟩
abbrev S8x2048x56x64x1 : Shape := ⟨5, ![8, 2048, 56, 64, 1]⟩
abbrev S1x1x1x1x2 : Shape := ⟨5, ![1, 1, 1, 1, 2]⟩
abbrev S8x2048x56x64x2 : Shape := ⟨5, ![8, 2048, 56, 64, 2]⟩
abbrev S_ : Shape := ⟨0, ![]⟩
abbrev S8x2048x56x1x1 : Shape := ⟨5, ![8, 2048, 56, 1, 1]⟩
abbrev S8x2048x64 : Shape := ⟨3, ![8, 2048, 64]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x7168, .bf16⟩
  | .hbm, ⟨1, _⟩ => ⟨S8x2048x3584, .i8⟩
  | .hbm, ⟨2, _⟩ => ⟨S8x2048x56, .f32⟩
  | .hbm, ⟨3, _⟩ => ⟨S8x2048x56, .i8⟩
  | .hbm, ⟨4, _⟩ => ⟨S8x7168x64, .bf16⟩
  | .hbm, ⟨5, _⟩ => ⟨S2, .i32⟩
  | .hbm, ⟨6, _⟩ => ⟨S8x2048x3584, .i32⟩
  | .hbm, ⟨7, _⟩ => ⟨S8x2048x56x64x1, .i32⟩
  | .hbm, ⟨8, _⟩ => ⟨S1x1x1x1x2, .i32⟩
  | .hbm, ⟨9, _⟩ => ⟨S8x2048x56x64x2, .i32⟩
  | .hbm, ⟨10, _⟩ => ⟨S8x2048x56x64x2, .i32⟩
  | .hbm, ⟨11, _⟩ => ⟨S8x2048x56x64x2, .i32⟩
  | .hbm, ⟨12, _⟩ => ⟨S_, .i32⟩
  | .hbm, ⟨13, _⟩ => ⟨S8x2048x56x64x2, .i32⟩
  | .hbm, ⟨14, _⟩ => ⟨S8x2048x56x64x2, .i32⟩
  | .hbm, ⟨15, _⟩ => ⟨S8x2048x56x64x2, .f32⟩
  | .hbm, ⟨16, _⟩ => ⟨S8x2048x7168, .f32⟩
  | .hbm, ⟨17, _⟩ => ⟨S8x2048x56x64x2, .f32⟩
  | .hbm, ⟨18, _⟩ => ⟨S8x2048x56, .i32⟩
  | .hbm, ⟨19, _⟩ => ⟨S8x2048x56, .f32⟩
  | .hbm, ⟨20, _⟩ => ⟨S8x2048x56x1x1, .f32⟩
  | .hbm, ⟨21, _⟩ => ⟨S8x2048x56x1x1, .f32⟩
  | .hbm, ⟨22, _⟩ => ⟨S8x2048x56x64x2, .f32⟩
  | .hbm, ⟨23, _⟩ => ⟨S8x2048x56x64x2, .f32⟩
  | .hbm, ⟨24, _⟩ => ⟨S8x2048x56x64x2, .f32⟩
  | .hbm, ⟨25, _⟩ => ⟨S8x2048x56x64x2, .f32⟩
  | .hbm, ⟨26, _⟩ => ⟨S8x2048x56x64x2, .f32⟩
  | .hbm, ⟨27, _⟩ => ⟨S8x2048x56x64x2, .bf16⟩
  | .hbm, ⟨28, _⟩ => ⟨S8x2048x7168, .bf16⟩
  | .hbm, ⟨29, _⟩ => ⟨S8x2048x64, .f32⟩
  | .hbm, ⟨30, _⟩ => ⟨S8x2048x64, .bf16⟩
  | .hbm, ⟨31, _⟩ => ⟨S8x7168x64, .f32⟩
  | .hbm, ⟨32, _⟩ => ⟨S8x7168x64, .bf16⟩
  | .hbm, ⟨33, _⟩ => ⟨S8x2048x64, .f32⟩
  | .hbm, ⟨34, _⟩ => ⟨S8x2048x64, .bf16⟩
  | .hbm, ⟨35, _⟩ => ⟨S8x7168x64, .f32⟩
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Tiles.lean ====
/- The kernel body, written by tiles: the four phases of one tile of 256 columns, the sweep over the 28
   tiles, and the body as conditionals over sweeps. `body_eq` says it is the printed body. -/
module

public import proofs.«01_k».proof.Proof.Gen.KernelIdeal.Frame

@[expose] public section

set_option maxRecDepth 16384

noncomputable section

namespace Cert.KernelIdeal.Tiles

open Idealize.ShloMosaic Idealize.SL.Sem
open Cert.KernelIdeal
open Facts₀ Facts

variable {F : FTy → Type} [FloatOps F]

/-! ## The values one tile computes -/

/-- The zero points as floats. -/
def zfOf (v : Vec F S1x56x256 .i8) : FVec F S56x256 .f32 :=
  sitofp .f32 (extui 32 (shapeCast S56x256 v shapeCasts_S1x56x256_S56x256) natLt_8_32)

/-- The codes of a tile, unpacked to one per row. -/
def codesOf (v : Vec F S1x256x128 .i8) : FVec F S256x256 .bf16 :=
  sitofp .bf16 (andi (shrsi
    (shapeCast S256x256 (broadcastTo S128x2x256 (shapeCast S128x1x256 (shapeCast S128x1x256
      (extui 32 (transpose S128x256 [1, 0] (shapeCast S256x128 v shapeCasts_S1x256x128_S256x128)
        transposes_S256x128_p1_0_S128x256) natLt_8_32) shapeCasts_S128x256_S128x1x256)
        shapeCasts_S128x1x256_S128x1x256) broadcasts_S128x1x256_S128x2x256) shapeCasts_S128x2x256_S256x256)
    (muli (broadcast S256x256 4#32) (andi (iota .tc S256x256 32 [0] iota_S256x256_d0_w32) (broadcast S256x256 1#32))))
    (broadcast S256x256 15#32))

/-- The weights of a tile, columns first. -/
def wtOf (v : Vec F S1x256x256 .bf16) : FVec F S256x256 .bf16 :=
  transpose S256x256 [1, 0] (shapeCast S256x256 v shapeCasts_S1x256x256_S256x256) transposes_S256x256_p1_0_S256x256

/-- The residual of one group of 128 columns, from its codes `a`, weights `b`, scales `s` and zero points `z`. -/
def halfOf (a b : FVec F S128x256 .bf16) (s : Vec F S1x1x256 .f32) (z : Vec F S1x256 .f32) : FVec F S128x256 .bf16 :=
  truncf .bf16 (subf (extf .f32 b bitsLt_bf16_f32)
    (mulf (extf .f32 (subf a (broadcastTo S128x256 (truncf .bf16 z bitsLt_bf16_f32) broadcasts_S1x256_S128x256)) bitsLt_bf16_f32)
      (broadcastTo S128x256 (shapeCast S1x256 s shapeCasts_S1x1x256_S1x256) broadcasts_S1x256_S128x256))) bitsLt_bf16_f32

/-- The residual of one tile of 256 columns: its two groups, one under the other. -/
def eTile (w : Vec F S1x256x256 .bf16) (cd : Vec F S1x256x128 .i8) (s₀ : Vec F S1x1x256 .f32) (z₀ : Vec F S1x256 .f32)
    (s₁ : Vec F S1x1x256 .f32) (z₁ : Vec F S1x256 .f32) : FVec F S256x256 .bf16 :=
  concatenate S256x256 0
    [⟨S128x256, halfOf (extractStridedSlice S128x256 ![0, 0] (codesOf cd) slices_S256x256_o0_0_S128x256)
        (extractStridedSlice S128x256 ![0, 0] (wtOf w) slices_S256x256_o0_0_S128x256) s₀ z₀⟩,
     ⟨S128x256, halfOf (extractStridedSlice S128x256 ![128, 0] (codesOf cd) slices_S256x256_o128_0_S128x256)
        (extractStridedSlice S128x256 ![128, 0] (wtOf w) slices_S256x256_o128_0_S128x256) s₁ z₁⟩]
    concatenates_S128x256_S128x256_S256x256_d0

/-- `a` times the tile `e`. -/
def dotOf (a : FVec F S64x256 .bf16) (e : FVec F S256x256 .bf16) : FVec F S64x256 .f32 :=
  matmul dot_S64x256_S256x256_S64x256_1_0_0_1_n_n none a e (constant S64x256 .f32 0x00000000#32)

/-- `a` times the transpose of the tile `e`. -/
def dotTOf (a : FVec F S64x256 .bf16) (e : FVec F S256x256 .bf16) : FVec F S64x256 .f32 :=
  matmul dot_S64x256_S256x256_S64x256_1_1_0_0_n_n none a e (constant S64x256 .f32 0x00000000#32)

/-- A running sum, started from zero where `b` is set. -/
def accOf (b : BitVec 1) (old d : FVec F S64x256 .f32) : FVec F S64x256 .f32 :=
  addf (Scalar.select b (broadcast S64x256 (Scalar.ofBits .f32 0x00000000#32)) old) d

/-! ## Where a tile lies -/

theorem inbW (c : Fin 28) : ∀ a, (![0, 0, 256 * c.val] : Fin 3 → Nat) a + S1x256x256.size a ≤ S1x256x7168.size a := by
  revert c; decide +kernel
theorem inbC (c : Fin 28) : ∀ a, (![0, 0, 128 * c.val] : Fin 3 → Nat) a + S1x256x128.size a ≤ S1x256x3584.size a := by
  revert c; decide +kernel
theorem inbS (g : Fin 56) : ∀ a, (![0, g.val, 0] : Fin 3 → Nat) a + S1x1x256.size a ≤ S1x56x256.size a := by
  revert g; decide +kernel
theorem inbZ (g : Fin 56) : ∀ a, (![g.val, 0] : Fin 2 → Nat) a + S1x256.size a ≤ S56x256.size a := by
  revert g; decide +kernel
theorem inbO (c : Fin 28) : ∀ a, (![0, 0, 256 * c.val] : Fin 3 → Nat) a + S1x64x256.size a ≤ S1x64x7168.size a := by
  revert c; decide +kernel
theorem inbP (c : Fin 28) : ∀ a, (![0, 256 * c.val] : Fin 2 → Nat) a + S64x256.size a ≤ S64x7168.size a := by
  revert c; decide +kernel

/-- The corner of tile `c` of slot `s`. -/
abbrev offE (s : BitVec 32) (c : Fin 28) : Fin 3 → Nat := ![(Scalar.indexCast s : Index).toNat, 256 * c.val, 0]

/-- The slot is one of the eleven. -/
abbrev SlotOk (s : BitVec 32) : Prop := (Scalar.indexCast s : Index).toNat + 1 ≤ 11

theorem inbE (s : BitVec 32) (hs : SlotOk s) (c : Fin 28) : ∀ a, offE s c a + S1x256x256.size a ≤ S11x7168x256.size a := by
  intro a
  match a with
  | 0 => exact hs
  | 1 => show 256 * c.val + 256 ≤ 7168; omega
  | 2 => show 0 + 256 ≤ 256; omega

theorem inbE' (n : Fin 11) (c : Fin 28) :
    ∀ a, (![n.val, 256 * c.val, 0] : Fin 3 → Nat) a + S1x256x256.size a ≤ S11x7168x256.size a := by
  revert n c; decide +kernel

theorem packedE' (n : Fin 11) (c : Fin 28) :
    (Rect.unit (s := S11x7168x256) ![n.val, 256 * c.val, 0] S1x256x256.size (inbE' n c)).PackedRows (EltTy.packing .bf16) := by
  revert n c; decide +kernel

theorem packedE (s : BitVec 32) (hs : SlotOk s) (c : Fin 28) :
    (Rect.unit (s := S11x7168x256) (offE s c) S1x256x256.size (inbE s hs c)).PackedRows (EltTy.packing .bf16) :=
  packedE' ⟨_, hs⟩ c

/-- The two groups of tile `c`. -/
abbrev grp₀ (c : Fin 28) : Fin 56 := ⟨2 * c.val, by omega⟩
abbrev grp₁ (c : Fin 28) : Fin 56 := ⟨2 * c.val + 1, by omega⟩

/-! ## The phases of a tile -/

section Phases

/-- The zero points into their scratch. -/
def preA
  (arg4 : Memref sig .tc .vmem S1x56x256 .i8) (harg4 : arg4.IsWhole)
  (arg10 : Memref sig .tc .vmem S56x256 .f32) (harg10 : arg10.IsWhole) : Prog (TpuEff nD τ sig (Elt F) Λ₀ .tc) PUnit := do
  let v35 : Vec F S1x56x256 .i8 ← Prog.lift (.load arg4 (Rect.unit (s := S1x56x256) ![0, 0, 0] S1x56x256.size inb_S1x56x256_S1x56x256_0_0_0).toLoadRect (View.loadsAt_vmem h_S1x56x256))
  let v39 : Vec F S56x256 .f32 ← Prog.lift (.load arg10 (Rect.unit (s := S56x256) ![0, 0] S56x256.size inb_S56x256_S56x256_0_0).toLoadRect (View.loadsAt_vmem h_S56x256))
  Prog.lift (.store arg10 (Rect.unit (s := S56x256) ![0, 0] S56x256.size inb_S56x256_S56x256_0_0)
    (shapeCast S56x256 (zfOf v35) shapeCasts_S56x256_S56x256) Finset.univ (View.stores_vmem_bits_univ h_S56x256 rfl) (.inl rfl))

/-- Phase A on tile `c`: its residual into slot `s`; returns its share of `y0`. -/
def phA
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg5 : Memref sig .tc .vmem S1x64x7168 .bf16) (harg5 : arg5.IsWhole)
  (arg9 : Memref sig .tc .vmem S11x7168x256 .bf16) (harg9 : arg9.IsWhole)
  (arg10 : Memref sig .tc .vmem S56x256 .f32) (harg10 : arg10.IsWhole)
  (s : BitVec 32) (hs : SlotOk s) (c : Fin 28) : Prog (TpuEff nD τ sig (Elt F) Λ₀ .tc) (FVec F S64x256 .f32) := do
  let w : Vec F S1x256x256 .bf16 ← Prog.lift (.load arg1 (Rect.unit (s := S1x256x7168) ![0, 0, 256 * c.val] S1x256x256.size (inbW c)).toLoadRect (View.loadsAt_vmem h_S1x256x256))
  let cd : Vec F S1x256x128 .i8 ← Prog.lift (.load arg2 (Rect.unit (s := S1x256x3584) ![0, 0, 128 * c.val] S1x256x128.size (inbC c)).toLoadRect (View.loadsAt_vmem h_S1x256x128))
  let s₀ : Vec F S1x1x256 .f32 ← Prog.lift (.load arg3 (Rect.unit (s := S1x56x256) ![0, (grp₀ c).val, 0] S1x1x256.size (inbS (grp₀ c))).toLoadRect (View.loadsAt_vmem h_S1x1x256))
  let z₀ : Vec F S1x256 .f32 ← Prog.lift (.load arg10 (Rect.unit (s := S56x256) ![(grp₀ c).val, 0] S1x256.size (inbZ (grp₀ c))).toLoadRect (View.loadsAt_vmem h_S1x256))
  let s₁ : Vec F S1x1x256 .f32 ← Prog.lift (.load arg3 (Rect.unit (s := S1x56x256) ![0, (grp₁ c).val, 0] S1x1x256.size (inbS (grp₁ c))).toLoadRect (View.loadsAt_vmem h_S1x1x256))
  let z₁ : Vec F S1x256 .f32 ← Prog.lift (.load arg10 (Rect.unit (s := S56x256) ![(grp₁ c).val, 0] S1x256.size (inbZ (grp₁ c))).toLoadRect (View.loadsAt_vmem h_S1x256))
  let _v : Vec F S1x256x256 .bf16 ← Prog.lift (.load arg9 (Rect.unit (s := S11x7168x256) (offE s c) S1x256x256.size (inbE s hs c)).toLoadRect (View.loadsAt_vmem h_S1x256x256))
  Prog.lift (.store arg9 (Rect.unit (s := S11x7168x256) (offE s c) S1x256x256.size (inbE s hs c))
    (shapeCast S1x256x256 (eTile w cd s₀ z₀ s₁ z₁) shapeCasts_S256x256_S1x256x256) Finset.univ
    (View.stores_vmem h_S1x256x256 (harg9.storeExact_slice rfl _ (packedE s hs c)) (fun _ => rfl)) (.inl rfl))
  let o : Vec F S1x64x256 .bf16 ← Prog.lift (.load arg5 (Rect.unit (s := S1x64x7168) ![0, 0, 256 * c.val] S1x64x256.size (inbO c)).toLoadRect (View.loadsAt_vmem h_S1x64x256))
  pure (dotOf (shapeCast S64x256 o shapeCasts_S1x64x256_S64x256) (eTile w cd s₀ z₀ s₁ z₁))

/-- Phase P on tile `c`: add the product of `a` and the transposed tile of slot `s` to `p`. -/
def phP
  (arg9 : Memref sig .tc .vmem S11x7168x256 .bf16) (harg9 : arg9.IsWhole)
  (arg11 : Memref sig .tc .vmem S64x7168 .f32) (harg11 : arg11.IsWhole)
  (s : BitVec 32) (hs : SlotOk s) (b : BitVec 1) (a : FVec F S64x256 .bf16) (c : Fin 28) : Prog (TpuEff nD τ sig (Elt F) Λ₀ .tc) PUnit := do
  let e : Vec F S1x256x256 .bf16 ← Prog.lift (.load arg9 (Rect.unit (s := S11x7168x256) (offE s c) S1x256x256.size (inbE s hs c)).toLoadRect (View.loadsAt_vmem h_S1x256x256))
  let p : Vec F S64x256 .f32 ← Prog.lift (.load arg11 (Rect.unit (s := S64x7168) ![0, 256 * c.val] S64x256.size (inbP c)).toLoadRect (View.loadsAt_vmem h_S64x256))
  let _v : Vec F S64x256 .f32 ← Prog.lift (.load arg11 (Rect.unit (s := S64x7168) ![0, 256 * c.val] S64x256.size (inbP c)).toLoadRect (View.loadsAt_vmem h_S64x256))
  Prog.lift (.store arg11 (Rect.unit (s := S64x7168) ![0, 256 * c.val] S64x256.size (inbP c))
    (shapeCast S64x256 (accOf b p (dotTOf a (shapeCast S256x256 e shapeCasts_S1x256x256_S256x256))) shapeCasts_S64x256_S64x256)
    Finset.univ (View.stores_vmem_bits_univ h_S64x256 rfl) (.inl rfl))

/-- Phase Y on tile `c`: the tile of slot `s` times `pb`'s columns. -/
def phY
  (arg9 : Memref sig .tc .vmem S11x7168x256 .bf16) (harg9 : arg9.IsWhole)
  (arg12 : Memref sig .tc .vmem S64x7168 .bf16) (harg12 : arg12.IsWhole)
  (s : BitVec 32) (hs : SlotOk s) (c : Fin 28) : Prog (TpuEff nD τ sig (Elt F) Λ₀ .tc) (FVec F S64x256 .f32) := do
  let a : Vec F S64x256 .bf16 ← Prog.lift (.load arg12 (Rect.unit (s := S64x7168) ![0, 256 * c.val] S64x256.size (inbP c)).toLoadRect (View.loadsAt_vmem h_S64x256))
  let e : Vec F S1x256x256 .bf16 ← Prog.lift (.load arg9 (Rect.unit (s := S11x7168x256) (offE s c) S1x256x256.size (inbE s hs c)).toLoadRect (View.loadsAt_vmem h_S1x256x256))
  pure (dotOf a (shapeCast S256x256 e shapeCasts_S1x256x256_S256x256))

/-- Phase Z on tile `c`: add the product of `a` and the transposed tile of slot `s` to the output block. -/
def phZ
  (arg7 : Memref sig .tc .vmem S1x64x7168 .f32) (harg7 : arg7.IsWhole)
  (arg9 : Memref sig .tc .vmem S11x7168x256 .bf16) (harg9 : arg9.IsWhole)
  (s : BitVec 32) (hs : SlotOk s) (b : BitVec 1) (a : FVec F S64x256 .bf16) (c : Fin 28) : Prog (TpuEff nD τ sig (Elt F) Λ₀ .tc) PUnit := do
  let e : Vec F S1x256x256 .bf16 ← Prog.lift (.load arg9 (Rect.unit (s := S11x7168x256) (offE s c) S1x256x256.size (inbE s hs c)).toLoadRect (View.loadsAt_vmem h_S1x256x256))
  let z : Vec F S1x64x256 .f32 ← Prog.lift (.load arg7 (Rect.unit (s := S1x64x7168) ![0, 0, 256 * c.val] S1x64x256.size (inbO c)).toLoadRect (View.loadsAt_vmem h_S1x64x256))
  let _v : Vec F S1x64x256 .f32 ← Prog.lift (.load arg7 (Rect.unit (s := S1x64x7168) ![0, 0, 256 * c.val] S1x64x256.size (inbO c)).toLoadRect (View.loadsAt_vmem h_S1x64x256))
  Prog.lift (.store arg7 (Rect.unit (s := S1x64x7168) ![0, 0, 256 * c.val] S1x64x256.size (inbO c))
    (shapeCast S1x64x256 (accOf b (shapeCast S64x256 z shapeCasts_S1x64x256_S64x256)
      (dotTOf a (shapeCast S256x256 e shapeCasts_S1x256x256_S256x256))) shapeCasts_S64x256_S1x64x256)
    Finset.univ (View.stores_vmem_bits_univ h_S1x64x256 rfl) (.inl rfl))

/-- The sweep's sum into the output block `arg8` and, rounded, into the scratch `arg13`. -/
def post
  (arg8 : Memref sig .tc .vmem S1x64x256 .f32) (harg8 : arg8.IsWhole)
  (arg13 : Memref sig .tc .vmem S64x256 .bf16) (harg13 : arg13.IsWhole) (y : FVec F S64x256 .f32) : Prog (TpuEff nD τ sig (Elt F) Λ₀ .tc) PUnit := do
  let _v : Vec F S1x64x256 .f32 ← Prog.lift (.load arg8 (Rect.unit (s := S1x64x256) ![0, 0, 0] S1x64x256.size inb_S1x64x256_S1x64x256_0_0_0).toLoadRect (View.loadsAt_vmem h_S1x64x256))
  Prog.lift (.store arg8 (Rect.unit (s := S1x64x256) ![0, 0, 0] S1x64x256.size inb_S1x64x256_S1x64x256_0_0_0)
    (shapeCast S1x64x256 y shapeCasts_S64x256_S1x64x256) Finset.univ (View.stores_vmem_bits_univ h_S1x64x256 rfl) (.inl rfl))
  let _v : Vec F S64x256 .bf16 ← Prog.lift (.load arg13 (Rect.unit (s := S64x256) ![0, 0] S64x256.size inb_S64x256_S64x256_0_0).toLoadRect (View.loadsAt_vmem h_S64x256))
  Prog.lift (.store arg13 (Rect.unit (s := S64x256) ![0, 0] S64x256.size inb_S64x256_S64x256_0_0)
    (shapeCast S64x256 (truncf .bf16 y bitsLt_bf16_f32) shapeCasts_S64x256_S64x256) Finset.univ
    (View.stores_vmem h_S64x256 (harg13.storeExact_slice rfl _ packedbf16_S64x256_S64x256_0_0) (fun _ => rfl)) (.inl rfl))

/-- A rounded sum read back. -/
def rd13 (arg13 : Memref sig .tc .vmem S64x256 .bf16) (harg13 : arg13.IsWhole) : Prog (TpuEff nD τ sig (Elt F) Λ₀ .tc) (FVec F S64x256 .bf16) := do
  let v : Vec F S64x256 .bf16 ← Prog.lift (.load arg13 (Rect.unit (s := S64x256) ![0, 0] S64x256.size inb_S64x256_S64x256_0_0).toLoadRect (View.loadsAt_vmem h_S64x256))
  pure v

/-- `p` rounded into `pb`. -/
def phB
  (arg11 : Memref sig .tc .vmem S64x7168 .f32) (harg11 : arg11.IsWhole)
  (arg12 : Memref sig .tc .vmem S64x7168 .bf16) (harg12 : arg12.IsWhole) : Prog (TpuEff nD τ sig (Elt F) Λ₀ .tc) PUnit := do
  let v35 : Vec F S64x7168 .f32 ← Prog.lift (.load arg11 (Rect.unit (s := S64x7168) ![0, 0] S64x7168.size inb_S64x7168_S64x7168_0_0).toLoadRect (View.loadsAt_vmem h_S64x7168))
  let _v : Vec F S64x7168 .bf16 ← Prog.lift (.load arg12 (Rect.unit (s := S64x7168) ![0, 0] S64x7168.size inb_S64x7168_S64x7168_0_0).toLoadRect (View.loadsAt_vmem h_S64x7168))
  Prog.lift (.store arg12 (Rect.unit (s := S64x7168) ![0, 0] S64x7168.size inb_S64x7168_S64x7168_0_0)
    (shapeCast S64x7168 (truncf .bf16 v35 bitsLt_bf16_f32) shapeCasts_S64x7168_S64x7168) Finset.univ
    (View.stores_vmem h_S64x7168 (harg12.storeExact_slice rfl _ packedbf16_S64x7168_S64x7168_0_0) (fun _ => rfl)) (.inl rfl))

end Phases

/-! ## The sweep -/

/-- Tiles `c`, `c + 1`, … (`n` of them), each by `T`, their shares summed onto `acc`. -/
def sweep (T : Fin 28 → Prog (TpuEff nD τ sig (Elt F) Λ₀ .tc) (FVec F S64x256 .f32)) :
    (n c : Nat) → c + n = 28 → FVec F S64x256 .f32 → Prog (TpuEff nD τ sig (Elt F) Λ₀ .tc) (FVec F S64x256 .f32)
  | 0, _, _, acc => pure acc
  | n + 1, c, h, acc => do
    let d ← T ⟨c, by omega⟩
    sweep T n (c + 1) (by omega) (addf acc d)

/-- The sweep over all tiles, the sum started at the first one's share. -/
def sweepAll (T : Fin 28 → Prog (TpuEff nD τ sig (Elt F) Λ₀ .tc) (FVec F S64x256 .f32)) : Prog (TpuEff nD τ sig (Elt F) Λ₀ .tc) (FVec F S64x256 .f32) := do
  let d ← T ⟨0, by omega⟩
  sweep T 27 1 rfl d

/-- The sweep of two sums. -/
def sweep₂ (T : Fin 28 → Prog (TpuEff nD τ sig (Elt F) Λ₀ .tc) (FVec F S64x256 .f32 × FVec F S64x256 .f32)) :
    (n c : Nat) → c + n = 28 → FVec F S64x256 .f32 → FVec F S64x256 .f32 → Prog (TpuEff nD τ sig (Elt F) Λ₀ .tc) (FVec F S64x256 .f32 × FVec F S64x256 .f32)
  | 0, _, _, a, b => pure (a, b)
  | n + 1, c, h, a, b => do
    let d ← T ⟨c, by omega⟩
    sweep₂ T n (c + 1) (by omega) (addf a d.1) (addf b d.2)

def sweepAll₂ (T : Fin 28 → Prog (TpuEff nD τ sig (Elt F) Λ₀ .tc) (FVec F S64x256 .f32 × FVec F S64x256 .f32)) : Prog (TpuEff nD τ sig (Elt F) Λ₀ .tc) (FVec F S64x256 .f32 × FVec F S64x256 .f32) := do
  let d ← T ⟨0, by omega⟩
  sweep₂ T 27 1 rfl d.1 d.2

/-- The sweep of no sum. -/
def sweep₀ (T : Fin 28 → Prog (TpuEff nD τ sig (Elt F) Λ₀ .tc) PUnit) : (n c : Nat) → c + n = 28 → Prog (TpuEff nD τ sig (Elt F) Λ₀ .tc) PUnit
  | 0, _, _ => pure ⟨⟩
  | n + 1, c, h => do
    T ⟨c, by omega⟩
    sweep₀ T n (c + 1) (by omega)

/-! ## The branches -/

section Body

/-- The point's number. -/
abbrev tOf (i : grid0.Coords) : BitVec 32 := BitVec.ofNat 32 (i 0).val
abbrev slA (i : grid0.Coords) : BitVec 32 := Scalar.remsi (tOf i) 11#32
abbrev nP (i : grid0.Coords) : BitVec 32 := Scalar.subi (tOf i) 1#32
abbrev slP (i : grid0.Coords) : BitVec 32 := Scalar.remsi (nP i) 11#32
abbrev fsP (i : grid0.Coords) : BitVec 1 := Scalar.cmpi .eq (Scalar.remsi (nP i) 8#32) 0#32
abbrev slY (i : grid0.Coords) : BitVec 32 := Scalar.remsi (Scalar.subi (Scalar.subi (tOf i) 8#32) 1#32) 11#32
abbrev nZ (i : grid0.Coords) : BitVec 32 := Scalar.subi (Scalar.subi (tOf i) 8#32) 2#32
abbrev slZ (i : grid0.Coords) : BitVec 32 := Scalar.remsi (nZ i) 11#32
abbrev fsZ (i : grid0.Coords) : BitVec 1 := Scalar.cmpi .eq (Scalar.remsi (nZ i) 8#32) 0#32

def br1
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hA : SlotOk (slA i)) : Prog (TpuEff nD τ sig (Elt F) Λ₀ .tc) PUnit := do
  preA arg4 harg4 arg10 harg10
  let y ← sweepAll (phA arg1 harg1 arg2 harg2 arg3 harg3 arg5 harg5 arg9 harg9 arg10 harg10 (slA i) hA)
  post arg8 harg8 arg13 harg13 y

def br2
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hA : SlotOk (slA i)) (hP : SlotOk (slP i)) : Prog (TpuEff nD τ sig (Elt F) Λ₀ .tc) PUnit := do
  preA arg4 harg4 arg10 harg10
  let a ← rd13 arg13 harg13
  let y ← sweepAll fun c => do
    let d ← phA arg1 harg1 arg2 harg2 arg3 harg3 arg5 harg5 arg9 harg9 arg10 harg10 (slA i) hA c
    phP arg9 harg9 arg11 harg11 (slP i) hP (fsP i) a c
    pure d
  post arg8 harg8 arg13 harg13 y

def br3
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hA : SlotOk (slA i)) (hP : SlotOk (slP i)) (hY : SlotOk (slY i)) (hZ : SlotOk (slZ i)) : Prog (TpuEff nD τ sig (Elt F) Λ₀ .tc) PUnit := do
  preA arg4 harg4 arg10 harg10
  let a ← rd13 arg13 harg13
  let b ← rd13 arg14 harg14
  let y ← sweepAll₂ fun c => do
    let d ← phA arg1 harg1 arg2 harg2 arg3 harg3 arg5 harg5 arg9 harg9 arg10 harg10 (slA i) hA c
    phP arg9 harg9 arg11 harg11 (slP i) hP (fsP i) a c
    let d' ← phY arg9 harg9 arg12 harg12 (slY i) hY c
    phZ arg7 harg7 arg9 harg9 (slZ i) hZ (fsZ i) b c
    pure (d, d')
  post arg8 harg8 arg13 harg13 y.1
  post arg6 harg6 arg14 harg14 y.2

def br4
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hP : SlotOk (slP i)) (hZ : SlotOk (slZ i)) : Prog (TpuEff nD τ sig (Elt F) Λ₀ .tc) PUnit := do
  let a ← rd13 arg13 harg13
  let b ← rd13 arg14 harg14
  sweep₀ (fun c => do
    phP arg9 harg9 arg11 harg11 (slP i) hP (fsP i) a c
    phZ arg7 harg7 arg9 harg9 (slZ i) hZ (fsZ i) b c) 28 0 rfl

def br5
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hY : SlotOk (slY i)) : Prog (TpuEff nD τ sig (Elt F) Λ₀ .tc) PUnit := do
  let y ← sweepAll (phY arg9 harg9 arg12 harg12 (slY i) hY)
  post arg6 harg6 arg14 harg14 y

def br6
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hY : SlotOk (slY i)) (hZ : SlotOk (slZ i)) : Prog (TpuEff nD τ sig (Elt F) Λ₀ .tc) PUnit := do
  let b ← rd13 arg14 harg14
  let y ← sweepAll fun c => do
    let d' ← phY arg9 harg9 arg12 harg12 (slY i) hY c
    phZ arg7 harg7 arg9 harg9 (slZ i) hZ (fsZ i) b c
    pure d'
  post arg6 harg6 arg14 harg14 y

def br7
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) (hZ : SlotOk (slZ i)) : Prog (TpuEff nD τ sig (Elt F) Λ₀ .tc) PUnit := do
  let b ← rd13 arg14 harg14
  sweep₀ (phZ arg7 harg7 arg9 harg9 (slZ i) hZ (fsZ i) b) 28 0 rfl

/-! ## The printed body by tiles -/

/-- The phases of a point from branch 7 on, and what the last one's condition needs. -/
def head7
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h7 : k0_cond7 i = 1#1 then
    br7 i arg1 harg1 arg2 harg2 arg3 harg3 arg4 harg4 arg5 harg5 arg6 harg6 arg7 harg7 arg8 harg8 arg9 harg9 arg10 harg10 arg11 harg11 arg12 harg12 arg13 harg13 arg14 harg14 (k0_off281_inb i h7 0) >>= fun _ => pure ⟨Scalar.cmpi .sge (tOf i) 8#32, Scalar.remsi (tOf i) 8#32, 0#32⟩
  else pure ⟨Scalar.cmpi .sge (tOf i) 8#32, Scalar.remsi (tOf i) 8#32, 0#32⟩

/-- The phases of a point from branch 6 on, and what the last one's condition needs. -/
def head6
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h6 : k0_cond6 i = 1#1 then
    br6 i arg1 harg1 arg2 harg2 arg3 harg3 arg4 harg4 arg5 harg5 arg6 harg6 arg7 harg7 arg8 harg8 arg9 harg9 arg10 harg10 arg11 harg11 arg12 harg12 arg13 harg13 arg14 harg14 (k0_off253_inb i h6 0 0) (k0_off253_inb i h6 1 0) >>= fun _ => head7 i arg1 harg1 arg2 harg2 arg3 harg3 arg4 harg4 arg5 harg5 arg6 harg6 arg7 harg7 arg8 harg8 arg9 harg9 arg10 harg10 arg11 harg11 arg12 harg12 arg13 harg13 arg14 harg14
  else head7 i arg1 harg1 arg2 harg2 arg3 harg3 arg4 harg4 arg5 harg5 arg6 harg6 arg7 harg7 arg8 harg8 arg9 harg9 arg10 harg10 arg11 harg11 arg12 harg12 arg13 harg13 arg14 harg14

/-- The phases of a point from branch 5 on, and what the last one's condition needs. -/
def head5
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h5 : k0_cond5 i = 1#1 then
    br5 i arg1 harg1 arg2 harg2 arg3 harg3 arg4 harg4 arg5 harg5 arg6 harg6 arg7 harg7 arg8 harg8 arg9 harg9 arg10 harg10 arg11 harg11 arg12 harg12 arg13 harg13 arg14 harg14 (k0_off225_inb i h5 0) >>= fun _ => head6 i arg1 harg1 arg2 harg2 arg3 harg3 arg4 harg4 arg5 harg5 arg6 harg6 arg7 harg7 arg8 harg8 arg9 harg9 arg10 harg10 arg11 harg11 arg12 harg12 arg13 harg13 arg14 harg14
  else head6 i arg1 harg1 arg2 harg2 arg3 harg3 arg4 harg4 arg5 harg5 arg6 harg6 arg7 harg7 arg8 harg8 arg9 harg9 arg10 harg10 arg11 harg11 arg12 harg12 arg13 harg13 arg14 harg14

/-- The phases of a point from branch 4 on, and what the last one's condition needs. -/
def head4
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h4 : k0_cond4 i = 1#1 then
    br4 i arg1 harg1 arg2 harg2 arg3 harg3 arg4 harg4 arg5 harg5 arg6 harg6 arg7 harg7 arg8 harg8 arg9 harg9 arg10 harg10 arg11 harg11 arg12 harg12 arg13 harg13 arg14 harg14 (k0_off169_inb i h4 0) (k0_off170_inb i h4 0) >>= fun _ => head5 i arg1 harg1 arg2 harg2 arg3 harg3 arg4 harg4 arg5 harg5 arg6 harg6 arg7 harg7 arg8 harg8 arg9 harg9 arg10 harg10 arg11 harg11 arg12 harg12 arg13 harg13 arg14 harg14
  else head5 i arg1 harg1 arg2 harg2 arg3 harg3 arg4 harg4 arg5 harg5 arg6 harg6 arg7 harg7 arg8 harg8 arg9 harg9 arg10 harg10 arg11 harg11 arg12 harg12 arg13 harg13 arg14 harg14

/-- The phases of a point from branch 3 on, and what the last one's condition needs. -/
def head3
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h3 : k0_cond3 i = 1#1 then
    br3 i arg1 harg1 arg2 harg2 arg3 harg3 arg4 harg4 arg5 harg5 arg6 harg6 arg7 harg7 arg8 harg8 arg9 harg9 arg10 harg10 arg11 harg11 arg12 harg12 arg13 harg13 arg14 harg14 (k0_off85_inb i h3 0) (k0_off86_inb i h3 0) (k0_off87_inb i h3 0 0) (k0_off87_inb i h3 1 0) >>= fun _ => head4 i arg1 harg1 arg2 harg2 arg3 harg3 arg4 harg4 arg5 harg5 arg6 harg6 arg7 harg7 arg8 harg8 arg9 harg9 arg10 harg10 arg11 harg11 arg12 harg12 arg13 harg13 arg14 harg14
  else head4 i arg1 harg1 arg2 harg2 arg3 harg3 arg4 harg4 arg5 harg5 arg6 harg6 arg7 harg7 arg8 harg8 arg9 harg9 arg10 harg10 arg11 harg11 arg12 harg12 arg13 harg13 arg14 harg14

/-- The phases of a point from branch 2 on, and what the last one's condition needs. -/
def head2
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h2 : k0_cond2 i = 1#1 then
    br2 i arg1 harg1 arg2 harg2 arg3 harg3 arg4 harg4 arg5 harg5 arg6 harg6 arg7 harg7 arg8 harg8 arg9 harg9 arg10 harg10 arg11 harg11 arg12 harg12 arg13 harg13 arg14 harg14 (k0_off29_inb i h2 0) (k0_off30_inb i h2 0) >>= fun _ => head3 i arg1 harg1 arg2 harg2 arg3 harg3 arg4 harg4 arg5 harg5 arg6 harg6 arg7 harg7 arg8 harg8 arg9 harg9 arg10 harg10 arg11 harg11 arg12 harg12 arg13 harg13 arg14 harg14
  else head3 i arg1 harg1 arg2 harg2 arg3 harg3 arg4 harg4 arg5 harg5 arg6 harg6 arg7 harg7 arg8 harg8 arg9 harg9 arg10 harg10 arg11 harg11 arg12 harg12 arg13 harg13 arg14 harg14

/-- The seven phases of a point, and what the last one's condition needs. -/
def head
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) (Σ' (_ : BitVec 1) (_ : BitVec 32), BitVec 32) :=
  if h1 : k0_cond1 i = 1#1 then
    br1 i arg1 harg1 arg2 harg2 arg3 harg3 arg4 harg4 arg5 harg5 arg6 harg6 arg7 harg7 arg8 harg8 arg9 harg9 arg10 harg10 arg11 harg11 arg12 harg12 arg13 harg13 arg14 harg14 (k0_off1_inb i h1 0) >>= fun _ => head2 i arg1 harg1 arg2 harg2 arg3 harg3 arg4 harg4 arg5 harg5 arg6 harg6 arg7 harg7 arg8 harg8 arg9 harg9 arg10 harg10 arg11 harg11 arg12 harg12 arg13 harg13 arg14 harg14
  else head2 i arg1 harg1 arg2 harg2 arg3 harg3 arg4 harg4 arg5 harg5 arg6 harg6 arg7 harg7 arg8 harg8 arg9 harg9 arg10 harg10 arg11 harg11 arg12 harg12 arg13 harg13 arg14 harg14

/-- The printed body by tiles. -/
def body
  (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) : Prog (TpuEff nD τ sig (Elt F) Λ₀ .tc) PUnit := do
  let ⟨v29, v30, c⟩ ← head i arg1 harg1 arg2 harg2 arg3 harg3 arg4 harg4 arg5 harg5 arg6 harg6 arg7 harg7 arg8 harg8 arg9 harg9 arg10 harg10 arg11 harg11 arg12 harg12 arg13 harg13 arg14 harg14
  if h8 : Scalar.cmpi .ne (Scalar.extui (Scalar.andi v29 (Scalar.cmpi .eq v30 c)) : BitVec 32) 0#32 = 1#1 then do
    phB arg11 harg11 arg12 harg12
  else do
    pure ⟨⟩
  pure ⟨⟩

end Body

end Cert.KernelIdeal.Tiles

end
-- ==== Proof.BodyEq.lean ====
/- The printed kernel body is the body by tiles. -/
module
public import proofs.«01_k».proof.Proof.Tiles
@[expose] public section
set_option maxRecDepth 16384
noncomputable section
namespace Cert.KernelIdeal.Tiles
open Idealize.ShloMosaic Idealize.SL.Sem
open Cert.KernelIdeal Idealize.ShloMosaic.Tactic
variable {F : FTy → Type} [FloatOps F]

/-- The printed phases are the phases by tiles. -/
theorem head_eq (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) :
  k0_part207 (F := F) i arg1 harg1 arg2 harg2 arg3 harg3 arg4 harg4 arg5 harg5 arg6 harg6 arg7 harg7 arg8 harg8 arg9 harg9 arg10 harg10 arg11 harg11 arg12 harg12 arg13 harg13 arg14 harg14 = head i arg1 harg1 arg2 harg2 arg3 harg3 arg4 harg4 arg5 harg5 arg6 harg6 arg7 harg7 arg8 harg8 arg9 harg9 arg10 harg10 arg11 harg11 arg12 harg12 arg13 harg13 arg14 harg14 := by sl_kernel_rfl

/-- The printed body is the body by tiles. -/
theorem body_eq (i : grid0.Coords)
  (arg1 : Memref sig .tc .vmem S1x256x7168 .bf16) (harg1 : arg1.IsWhole)
  (arg2 : Memref sig .tc .vmem S1x256x3584 .i8) (harg2 : arg2.IsWhole)
  (arg3 : Memref sig .tc .vmem S1x56x256 .f32) (harg3 : arg3.IsWhole)
  (arg4 : Memref sig .tc .vmem S1x56x256 .i8) (harg4 : arg4.IsWhole)
  (arg5 : Memref sig .tc .vmem S1x64x7168 .bf16) (harg5 : arg5.IsWhole)
  (arg6 : Memref sig .tc .vmem S1x64x256 .f32) (harg6 : arg6.IsWhole)
  (arg7 : Memref sig .tc .vmem S1x64x7168 .f32) (harg7 : arg7.IsWhole)
  (arg8 : Memref sig .tc .vmem S1x64x256 .f32) (harg8 : arg8.IsWhole)
  (arg9 : Memref sig .tc .vmem S11x7168x256 .bf16) (harg9 : arg9.IsWhole)
  (arg10 : Memref sig .tc .vmem S56x256 .f32) (harg10 : arg10.IsWhole)
  (arg11 : Memref sig .tc .vmem S64x7168 .f32) (harg11 : arg11.IsWhole)
  (arg12 : Memref sig .tc .vmem S64x7168 .bf16) (harg12 : arg12.IsWhole)
  (arg13 : Memref sig .tc .vmem S64x256 .bf16) (harg13 : arg13.IsWhole)
  (arg14 : Memref sig .tc .vmem S64x256 .bf16) (harg14 : arg14.IsWhole) :
  cc0_range_finder (F := F) i arg1 harg1 arg2 harg2 arg3 harg3 arg4 harg4 arg5 harg5 arg6 harg6 arg7 harg7 arg8 harg8 arg9 harg9 arg10 harg10 arg11 harg11 arg12 harg12 arg13 harg13 arg14 harg14 = body i arg1 harg1 arg2 harg2 arg3 harg3 arg4 harg4 arg5 harg5 arg6 harg6 arg7 harg7 arg8 harg8 arg9 harg9 arg10 harg10 arg11 harg11 arg12 harg12 arg13 harg13 arg14 harg14 := by
  unfold cc0_range_finder body
  rw [head_eq]
  rfl

end Cert.KernelIdeal.Tiles
end
-- ==== Proof.Runs.lean ====
/- A small calculus of deterministic runs: a program over the body's fourteen buffers runs as a function on
   their contents. One rule per buffer for a load and a store; a rule for sequencing. -/
module

public import proofs.«01_k».proof.Proof.Tiles
public import Idealize.ShloMosaic.Lib.VecWindow
public import Idealize.ShloMosaic.Lib.MemrefSat

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal
open Idealize.ShloMosaic.VecWindow (window put)

variable {F : FTy → Type} [FloatOps F]

local notation "𝕄" => MT nD τ sig Unit (Elt F) ℕ (UR sig nD τ) ℕ

/-! ## Loads and stores of an owned buffer -/

section Owns

variable {c : Dev nD} {cs : CoreSpace} {s : Shape} {e : EltTy} {α : Type} (𝒱 : Variants)

/-- A load of a box of an owned buffer goes on at that window of its contents. -/
theorem owns_load (M : Memref sig .tc cs s e) (X : s.Idx → Elt F e) (off size : Fin s.rank → ℕ)
    (inb : ∀ a, off a + size a ≤ s.size a) (hl : M.view.LoadsAt (Rect.unit off size inb).toLoadRect) (K : _ → sProp 𝕄) :
    iprop(owns (c : Thread nD τ) M fullShare X ∗ (owns (c : Thread nD τ) M fullShare X -∗ K (window X off size inb)))
      ⊢ wp frame (wpE (defs₀ (F := F)) 𝒱 (c : Thread nD τ) none) Set.univ (Prog.lift (.load M (Rect.unit off size inb).toLoadRect hl)) K := by
  unfold owns
  iintro ⟨⟨%f, %hf, H⟩, Hk⟩
  iapply (wp_load 𝒱 (c : Thread nD τ) none Set.univ (m := M) (View.setOn_subset_set _ _)) $$ H
  iintro H
  rw [wp_ret]
  imodintro
  rw [View.readAt_unit M.view f inb rfl inb, hf]
  iapply Hk
  iexists f
  isplitr
  · ipureintro; exact hf
  · iexact H

/-- A store to a box of an owned buffer leaves its contents with that box overwritten. -/
theorem owns_store (M : Memref sig .tc cs s e) (X : s.Idx → Elt F e) (off size : Fin s.rank → ℕ)
    (inb : ∀ a, off a + size a ≤ s.size a) (w : (Rect.unit off size inb).shape.Idx → Elt F e)
    (hx : (M.access (Rect.unit off size inb)).Stores Finset.univ)
    (hm : (Finset.univ : Finset (Rect.unit off size inb).shape.Idx) = Finset.univ ∨ ∀ a, (Rect.unit off size inb).stride a = 1) (K : PUnit → sProp 𝕄) :
    iprop(owns (c : Thread nD τ) M fullShare X ∗ (owns (c : Thread nD τ) M fullShare (put X off size w) -∗ K ⟨⟩))
      ⊢ wp frame (wpE (defs₀ (F := F)) 𝒱 (c : Thread nD τ) none) Set.univ (Prog.lift (.store M (Rect.unit off size inb) w Finset.univ hx hm)) K := by
  unfold owns
  iintro ⟨⟨%f, %hf, H⟩, Hk⟩
  iapply (wp_store 𝒱 (c : Thread nD τ) none Set.univ (m := M) (r := Rect.unit off size inb) (w := w) (hx := hx)
    (S := M.view.set) (View.set_slice_subset _ _)) $$ H
  iintro H
  rw [wp_ret]
  imodintro
  iapply Hk
  iexists _
  isplitr [H]
  rotate_left
  · iexact H
  · ipureintro
    have h := View.read_writes_cons_put M.view f (off := off) (off' := off) inb w [] rfl
    rw [View.writes_nil, hf] at h
    exact h

end Owns

/-! ## The fourteen buffers -/

/-- The contents of the body's buffers. -/
@[ext] structure St (F : FTy → Type) where
  a1 : Vec F S1x256x7168 .bf16
  a2 : Vec F S1x256x3584 .i8
  a3 : Vec F S1x56x256 .f32
  a4 : Vec F S1x56x256 .i8
  a5 : Vec F S1x64x7168 .bf16
  a6 : Vec F S1x64x256 .f32
  a7 : Vec F S1x64x7168 .f32
  a8 : Vec F S1x64x256 .f32
  a9 : Vec F S11x7168x256 .bf16
  a10 : Vec F S56x256 .f32
  a11 : Vec F S64x7168 .f32
  a12 : Vec F S64x7168 .bf16
  a13 : Vec F S64x256 .bf16
  a14 : Vec F S64x256 .bf16

/-- The buffers themselves, each a whole one. -/
structure Ms where
  m1 : Memref sig .tc .vmem S1x256x7168 .bf16
  h1 : m1.IsWhole
  m2 : Memref sig .tc .vmem S1x256x3584 .i8
  h2 : m2.IsWhole
  m3 : Memref sig .tc .vmem S1x56x256 .f32
  h3 : m3.IsWhole
  m4 : Memref sig .tc .vmem S1x56x256 .i8
  h4 : m4.IsWhole
  m5 : Memref sig .tc .vmem S1x64x7168 .bf16
  h5 : m5.IsWhole
  m6 : Memref sig .tc .vmem S1x64x256 .f32
  h6 : m6.IsWhole
  m7 : Memref sig .tc .vmem S1x64x7168 .f32
  h7 : m7.IsWhole
  m8 : Memref sig .tc .vmem S1x64x256 .f32
  h8 : m8.IsWhole
  m9 : Memref sig .tc .vmem S11x7168x256 .bf16
  h9 : m9.IsWhole
  m10 : Memref sig .tc .vmem S56x256 .f32
  h10 : m10.IsWhole
  m11 : Memref sig .tc .vmem S64x7168 .f32
  h11 : m11.IsWhole
  m12 : Memref sig .tc .vmem S64x7168 .bf16
  h12 : m12.IsWhole
  m13 : Memref sig .tc .vmem S64x256 .bf16
  h13 : m13.IsWhole
  m14 : Memref sig .tc .vmem S64x256 .bf16
  h14 : m14.IsWhole

/-- The buffers owned at contents `S`. -/
def own (c : Dev nD) (M : Ms) (S : St F) : sProp 𝕄 :=
  iprop(owns (c : Thread nD τ) M.m1 fullShare S.a1
    ∗ owns (c : Thread nD τ) M.m2 fullShare S.a2
    ∗ owns (c : Thread nD τ) M.m3 fullShare S.a3
    ∗ owns (c : Thread nD τ) M.m4 fullShare S.a4
    ∗ owns (c : Thread nD τ) M.m5 fullShare S.a5
    ∗ owns (c : Thread nD τ) M.m6 fullShare S.a6
    ∗ owns (c : Thread nD τ) M.m7 fullShare S.a7
    ∗ owns (c : Thread nD τ) M.m8 fullShare S.a8
    ∗ owns (c : Thread nD τ) M.m9 fullShare S.a9
    ∗ owns (c : Thread nD τ) M.m10 fullShare S.a10
    ∗ owns (c : Thread nD τ) M.m11 fullShare S.a11
    ∗ owns (c : Thread nD τ) M.m12 fullShare S.a12
    ∗ owns (c : Thread nD τ) M.m13 fullShare S.a13
    ∗ owns (c : Thread nD τ) M.m14 fullShare S.a14)

variable {α β : Type}

/-- `p` runs as the function `f` on the contents of the buffers. -/
def Runs (𝒱 : Variants) (c : Dev nD) (M : Ms) (p : Prog (TpuEff nD τ sig (Elt F) Λ₀ .tc) α) (f : St F → St F × α) : Prop :=
  ∀ (S : St F) (K : α → sProp 𝕄), iprop(own c M S ∗ (own c M (f S).1 -∗ K (f S).2))
    ⊢ wp frame (wpE (defs₀ (F := F)) 𝒱 (c : Thread nD τ) none) Set.univ p K

section Rules

variable {𝒱 : Variants} {c : Dev nD} {M : Ms}

theorem Runs.pure (a : α) : Runs (F := F) 𝒱 c M (Pure.pure a) (fun S => (S, a)) := by
  intro S K
  rw [wp_pure]
  iintro ⟨H, Hk⟩
  imodintro
  iapply Hk
  iexact H

theorem Runs.congr {p : Prog (TpuEff nD τ sig (Elt F) Λ₀ .tc) α} {f g : St F → St F × α} (hp : Runs 𝒱 c M p f) (e : f = g) :
    Runs 𝒱 c M p g := e ▸ hp

theorem Runs.bind {p : Prog (TpuEff nD τ sig (Elt F) Λ₀ .tc) α} {k : α → Prog (TpuEff nD τ sig (Elt F) Λ₀ .tc) β}
    {f : St F → St F × α} {g : α → St F → St F × β} (hp : Runs 𝒱 c M p f) (hk : ∀ a, Runs 𝒱 c M (k a) (g a)) :
    Runs 𝒱 c M (p >>= k) (fun S => g (f S).2 (f S).1) := by
  intro S K
  rw [wp_bind]
  refine .trans ?_ (hp S _)
  iintro ⟨H, Hk⟩
  isplitl [H]
  · iexact H
  iintro H
  iapply (hk (f S).2 (f S).1 K)
  isplitl [H]
  · iexact H
  · iexact Hk

theorem Runs.dite {P : Prop} [Decidable P] {p : P → Prog (TpuEff nD τ sig (Elt F) Λ₀ .tc) α} {q : ¬P → Prog (TpuEff nD τ sig (Elt F) Λ₀ .tc) α}
    {f g : St F → St F × α} (hp : ∀ h, Runs 𝒱 c M (p h) f) (hq : ∀ h, Runs 𝒱 c M (q h) g) :
    Runs 𝒱 c M (if h : P then p h else q h) (fun S => if P then f S else g S) := by
  by_cases h : P
  · simp only [h, dite_true, if_true]; exact hp h
  · simp only [h, dite_false, if_false]; exact hq h

theorem own_acc1 (S : St F) : own c M S ⊢ (iprop(owns (c : Thread nD τ) M.m1 fullShare S.a1
    ∗ (∀ X, owns (c : Thread nD τ) M.m1 fullShare X -∗ own c M {S with a1 := X})) : sProp 𝕄) := by
  unfold own
  iintro ⟨H1, H2, H3, H4, H5, H6, H7, H8, H9, H10, H11, H12, H13, H14⟩
  isplitl [H1]
  · iexact H1
  iintro %X HX
  isplitl [HX]
  · iexact HX
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load1 (off size : Fin S1x256x7168.rank → ℕ) (inb : ∀ a, off a + size a ≤ S1x256x7168.size a)
    (hl : M.m1.view.LoadsAt (Rect.unit off size inb).toLoadRect) :
    Runs (F := F) 𝒱 c M (Prog.lift (.load M.m1 (Rect.unit off size inb).toLoadRect hl)) (fun S => (S, window S.a1 off size inb)) := by
  intro S K
  refine .trans ?_ (owns_load 𝒱 M.m1 S.a1 off size inb hl K)
  iintro ⟨H, Hk⟩
  icases (own_acc1 S) $$ H with ⟨H, Hc⟩
  isplitl [H]
  · iexact H
  iintro H
  iapply Hk
  iapply (show _ ⊢ own c M S from .rfl)
  iapply Hc
  iexact H

theorem own_acc2 (S : St F) : own c M S ⊢ (iprop(owns (c : Thread nD τ) M.m2 fullShare S.a2
    ∗ (∀ X, owns (c : Thread nD τ) M.m2 fullShare X -∗ own c M {S with a2 := X})) : sProp 𝕄) := by
  unfold own
  iintro ⟨H1, H2, H3, H4, H5, H6, H7, H8, H9, H10, H11, H12, H13, H14⟩
  isplitl [H2]
  · iexact H2
  iintro %X HX
  isplitl [H1]
  · iexact H1
  isplitl [HX]
  · iexact HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load2 (off size : Fin S1x256x3584.rank → ℕ) (inb : ∀ a, off a + size a ≤ S1x256x3584.size a)
    (hl : M.m2.view.LoadsAt (Rect.unit off size inb).toLoadRect) :
    Runs (F := F) 𝒱 c M (Prog.lift (.load M.m2 (Rect.unit off size inb).toLoadRect hl)) (fun S => (S, window S.a2 off size inb)) := by
  intro S K
  refine .trans ?_ (owns_load 𝒱 M.m2 S.a2 off size inb hl K)
  iintro ⟨H, Hk⟩
  icases (own_acc2 S) $$ H with ⟨H, Hc⟩
  isplitl [H]
  · iexact H
  iintro H
  iapply Hk
  iapply (show _ ⊢ own c M S from .rfl)
  iapply Hc
  iexact H

theorem own_acc3 (S : St F) : own c M S ⊢ (iprop(owns (c : Thread nD τ) M.m3 fullShare S.a3
    ∗ (∀ X, owns (c : Thread nD τ) M.m3 fullShare X -∗ own c M {S with a3 := X})) : sProp 𝕄) := by
  unfold own
  iintro ⟨H1, H2, H3, H4, H5, H6, H7, H8, H9, H10, H11, H12, H13, H14⟩
  isplitl [H3]
  · iexact H3
  iintro %X HX
  isplitl [H1]
  · iexact H1
  isplitl [H2]
  · iexact H2
  isplitl [HX]
  · iexact HX
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load3 (off size : Fin S1x56x256.rank → ℕ) (inb : ∀ a, off a + size a ≤ S1x56x256.size a)
    (hl : M.m3.view.LoadsAt (Rect.unit off size inb).toLoadRect) :
    Runs (F := F) 𝒱 c M (Prog.lift (.load M.m3 (Rect.unit off size inb).toLoadRect hl)) (fun S => (S, window S.a3 off size inb)) := by
  intro S K
  refine .trans ?_ (owns_load 𝒱 M.m3 S.a3 off size inb hl K)
  iintro ⟨H, Hk⟩
  icases (own_acc3 S) $$ H with ⟨H, Hc⟩
  isplitl [H]
  · iexact H
  iintro H
  iapply Hk
  iapply (show _ ⊢ own c M S from .rfl)
  iapply Hc
  iexact H

theorem own_acc4 (S : St F) : own c M S ⊢ (iprop(owns (c : Thread nD τ) M.m4 fullShare S.a4
    ∗ (∀ X, owns (c : Thread nD τ) M.m4 fullShare X -∗ own c M {S with a4 := X})) : sProp 𝕄) := by
  unfold own
  iintro ⟨H1, H2, H3, H4, H5, H6, H7, H8, H9, H10, H11, H12, H13, H14⟩
  isplitl [H4]
  · iexact H4
  iintro %X HX
  isplitl [H1]
  · iexact H1
  isplitl [H2]
  · iexact H2
  isplitl [H3]
  · iexact H3
  isplitl [HX]
  · iexact HX
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load4 (off size : Fin S1x56x256.rank → ℕ) (inb : ∀ a, off a + size a ≤ S1x56x256.size a)
    (hl : M.m4.view.LoadsAt (Rect.unit off size inb).toLoadRect) :
    Runs (F := F) 𝒱 c M (Prog.lift (.load M.m4 (Rect.unit off size inb).toLoadRect hl)) (fun S => (S, window S.a4 off size inb)) := by
  intro S K
  refine .trans ?_ (owns_load 𝒱 M.m4 S.a4 off size inb hl K)
  iintro ⟨H, Hk⟩
  icases (own_acc4 S) $$ H with ⟨H, Hc⟩
  isplitl [H]
  · iexact H
  iintro H
  iapply Hk
  iapply (show _ ⊢ own c M S from .rfl)
  iapply Hc
  iexact H

theorem own_acc5 (S : St F) : own c M S ⊢ (iprop(owns (c : Thread nD τ) M.m5 fullShare S.a5
    ∗ (∀ X, owns (c : Thread nD τ) M.m5 fullShare X -∗ own c M {S with a5 := X})) : sProp 𝕄) := by
  unfold own
  iintro ⟨H1, H2, H3, H4, H5, H6, H7, H8, H9, H10, H11, H12, H13, H14⟩
  isplitl [H5]
  · iexact H5
  iintro %X HX
  isplitl [H1]
  · iexact H1
  isplitl [H2]
  · iexact H2
  isplitl [H3]
  · iexact H3
  isplitl [H4]
  · iexact H4
  isplitl [HX]
  · iexact HX
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load5 (off size : Fin S1x64x7168.rank → ℕ) (inb : ∀ a, off a + size a ≤ S1x64x7168.size a)
    (hl : M.m5.view.LoadsAt (Rect.unit off size inb).toLoadRect) :
    Runs (F := F) 𝒱 c M (Prog.lift (.load M.m5 (Rect.unit off size inb).toLoadRect hl)) (fun S => (S, window S.a5 off size inb)) := by
  intro S K
  refine .trans ?_ (owns_load 𝒱 M.m5 S.a5 off size inb hl K)
  iintro ⟨H, Hk⟩
  icases (own_acc5 S) $$ H with ⟨H, Hc⟩
  isplitl [H]
  · iexact H
  iintro H
  iapply Hk
  iapply (show _ ⊢ own c M S from .rfl)
  iapply Hc
  iexact H

theorem own_acc6 (S : St F) : own c M S ⊢ (iprop(owns (c : Thread nD τ) M.m6 fullShare S.a6
    ∗ (∀ X, owns (c : Thread nD τ) M.m6 fullShare X -∗ own c M {S with a6 := X})) : sProp 𝕄) := by
  unfold own
  iintro ⟨H1, H2, H3, H4, H5, H6, H7, H8, H9, H10, H11, H12, H13, H14⟩
  isplitl [H6]
  · iexact H6
  iintro %X HX
  isplitl [H1]
  · iexact H1
  isplitl [H2]
  · iexact H2
  isplitl [H3]
  · iexact H3
  isplitl [H4]
  · iexact H4
  isplitl [H5]
  · iexact H5
  isplitl [HX]
  · iexact HX
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load6 (off size : Fin S1x64x256.rank → ℕ) (inb : ∀ a, off a + size a ≤ S1x64x256.size a)
    (hl : M.m6.view.LoadsAt (Rect.unit off size inb).toLoadRect) :
    Runs (F := F) 𝒱 c M (Prog.lift (.load M.m6 (Rect.unit off size inb).toLoadRect hl)) (fun S => (S, window S.a6 off size inb)) := by
  intro S K
  refine .trans ?_ (owns_load 𝒱 M.m6 S.a6 off size inb hl K)
  iintro ⟨H, Hk⟩
  icases (own_acc6 S) $$ H with ⟨H, Hc⟩
  isplitl [H]
  · iexact H
  iintro H
  iapply Hk
  iapply (show _ ⊢ own c M S from .rfl)
  iapply Hc
  iexact H

theorem Runs.store6 (off size : Fin S1x64x256.rank → ℕ) (inb : ∀ a, off a + size a ≤ S1x64x256.size a)
    (w : (Rect.unit off size inb).shape.Idx → Elt F .f32) (hx : (M.m6.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m6 (Rect.unit off size inb) w Finset.univ hx hm))
      (fun S => ({S with a6 := put S.a6 off size w}, ⟨⟩)) := by
  intro S K
  refine .trans ?_ (owns_store 𝒱 M.m6 S.a6 off size inb w hx hm K)
  iintro ⟨H, Hk⟩
  icases (own_acc6 S) $$ H with ⟨H, Hc⟩
  isplitl [H]
  · iexact H
  iintro H
  iapply Hk
  iapply Hc
  iexact H

theorem own_acc7 (S : St F) : own c M S ⊢ (iprop(owns (c : Thread nD τ) M.m7 fullShare S.a7
    ∗ (∀ X, owns (c : Thread nD τ) M.m7 fullShare X -∗ own c M {S with a7 := X})) : sProp 𝕄) := by
  unfold own
  iintro ⟨H1, H2, H3, H4, H5, H6, H7, H8, H9, H10, H11, H12, H13, H14⟩
  isplitl [H7]
  · iexact H7
  iintro %X HX
  isplitl [H1]
  · iexact H1
  isplitl [H2]
  · iexact H2
  isplitl [H3]
  · iexact H3
  isplitl [H4]
  · iexact H4
  isplitl [H5]
  · iexact H5
  isplitl [H6]
  · iexact H6
  isplitl [HX]
  · iexact HX
  isplitl [H8]
  · iexact H8
  isplitl [H9]
  · iexact H9
  isplitl [H10]
  · iexact H10
  isplitl [H11]
  · iexact H11
  isplitl [H12]
  · iexact H12
  isplitl [H13]
  · iexact H13
  iexact H14

theorem Runs.load7 (off size : Fin S1x64x7168.rank → ℕ) (inb : ∀ a, off a + size a ≤ S1x64x7168.size a)
    (hl : M.m7.view.LoadsAt (Rect.unit off size inb).toLoadRect) :
    Runs (F := F) 𝒱 c M (Prog.lift (.load M.m7 (Rect.unit off size inb).toLoadRect hl)) (fun S => (S, window S.a7 off size inb)) := by
  intro S K
  refine .trans ?_ (owns_load 𝒱 M.m7 S.a7 off size inb hl K)
  iintro ⟨H, Hk⟩
  icases (own_acc7 S) $$ H with ⟨H, Hc⟩
  isplitl [H]
  · iexact H
  iintro H
  iapply Hk
  iapply (show _ ⊢ own c M S from .rfl)
  iapply Hc
  iexact H

theorem Runs.store7 (off size : Fin S1x64x7168.rank → ℕ) (inb : ∀ a, off a + size a ≤ S1x64x7168.size a)
    (w : (Rect.unit off size inb).shape.Idx → Elt F .f32) (hx : (M.m7.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m7 (Rect.unit off size inb) w Finset.univ hx hm))
      (fun S => ({S with a7 := put S.a7 off size w}, ⟨⟩)) := by
  intro S K
  refine .trans ?_ (owns_store 𝒱 M.m7 S.a7 off size inb w hx hm K)
  iintro ⟨H, Hk⟩
  icases (own_acc7 S) $$ H with ⟨H, Hc⟩
  isplitl [H]
  · iexact H
  iintro H
  iapply Hk
  iapply Hc
  iexact H

theorem own_acc8 (S : St F) : own c M S ⊢ (iprop(owns (c : Thread nD τ) M.m8 fullShare S.a8
    ∗ (∀ X, owns (c : Thread nD τ) M.m8 fullShare X -∗ own c M {S with a8 := X})) : sProp 𝕄) := by
  unfold own
  iintro ⟨H1, H2, H3, H4, H5, H6, H7, H8, H9, H10, H11, H12, H13, H14⟩
  isplitl [H8]
  · iexact H8
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [HX]
  · iexact HX
  isplitl [H9]
  · iexact H9
  isplitl [H10]
  · iexact H10
  isplitl [H11]
  · iexact H11
  isplitl [H12]
  · iexact H12
  isplitl [H13]
  · iexact H13
  iexact H14

theorem Runs.load8 (off size : Fin S1x64x256.rank → ℕ) (inb : ∀ a, off a + size a ≤ S1x64x256.size a)
    (hl : M.m8.view.LoadsAt (Rect.unit off size inb).toLoadRect) :
    Runs (F := F) 𝒱 c M (Prog.lift (.load M.m8 (Rect.unit off size inb).toLoadRect hl)) (fun S => (S, window S.a8 off size inb)) := by
  intro S K
  refine .trans ?_ (owns_load 𝒱 M.m8 S.a8 off size inb hl K)
  iintro ⟨H, Hk⟩
  icases (own_acc8 S) $$ H with ⟨H, Hc⟩
  isplitl [H]
  · iexact H
  iintro H
  iapply Hk
  iapply (show _ ⊢ own c M S from .rfl)
  iapply Hc
  iexact H

theorem Runs.store8 (off size : Fin S1x64x256.rank → ℕ) (inb : ∀ a, off a + size a ≤ S1x64x256.size a)
    (w : (Rect.unit off size inb).shape.Idx → Elt F .f32) (hx : (M.m8.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m8 (Rect.unit off size inb) w Finset.univ hx hm))
      (fun S => ({S with a8 := put S.a8 off size w}, ⟨⟩)) := by
  intro S K
  refine .trans ?_ (owns_store 𝒱 M.m8 S.a8 off size inb w hx hm K)
  iintro ⟨H, Hk⟩
  icases (own_acc8 S) $$ H with ⟨H, Hc⟩
  isplitl [H]
  · iexact H
  iintro H
  iapply Hk
  iapply Hc
  iexact H

theorem own_acc9 (S : St F) : own c M S ⊢ (iprop(owns (c : Thread nD τ) M.m9 fullShare S.a9
    ∗ (∀ X, owns (c : Thread nD τ) M.m9 fullShare X -∗ own c M {S with a9 := X})) : sProp 𝕄) := by
  unfold own
  iintro ⟨H1, H2, H3, H4, H5, H6, H7, H8, H9, H10, H11, H12, H13, H14⟩
  isplitl [H9]
  · iexact H9
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [HX]
  · iexact HX
  isplitl [H10]
  · iexact H10
  isplitl [H11]
  · iexact H11
  isplitl [H12]
  · iexact H12
  isplitl [H13]
  · iexact H13
  iexact H14

theorem Runs.load9 (off size : Fin S11x7168x256.rank → ℕ) (inb : ∀ a, off a + size a ≤ S11x7168x256.size a)
    (hl : M.m9.view.LoadsAt (Rect.unit off size inb).toLoadRect) :
    Runs (F := F) 𝒱 c M (Prog.lift (.load M.m9 (Rect.unit off size inb).toLoadRect hl)) (fun S => (S, window S.a9 off size inb)) := by
  intro S K
  refine .trans ?_ (owns_load 𝒱 M.m9 S.a9 off size inb hl K)
  iintro ⟨H, Hk⟩
  icases (own_acc9 S) $$ H with ⟨H, Hc⟩
  isplitl [H]
  · iexact H
  iintro H
  iapply Hk
  iapply (show _ ⊢ own c M S from .rfl)
  iapply Hc
  iexact H

theorem Runs.store9 (off size : Fin S11x7168x256.rank → ℕ) (inb : ∀ a, off a + size a ≤ S11x7168x256.size a)
    (w : (Rect.unit off size inb).shape.Idx → Elt F .bf16) (hx : (M.m9.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m9 (Rect.unit off size inb) w Finset.univ hx hm))
      (fun S => ({S with a9 := put S.a9 off size w}, ⟨⟩)) := by
  intro S K
  refine .trans ?_ (owns_store 𝒱 M.m9 S.a9 off size inb w hx hm K)
  iintro ⟨H, Hk⟩
  icases (own_acc9 S) $$ H with ⟨H, Hc⟩
  isplitl [H]
  · iexact H
  iintro H
  iapply Hk
  iapply Hc
  iexact H

theorem own_acc10 (S : St F) : own c M S ⊢ (iprop(owns (c : Thread nD τ) M.m10 fullShare S.a10
    ∗ (∀ X, owns (c : Thread nD τ) M.m10 fullShare X -∗ own c M {S with a10 := X})) : sProp 𝕄) := by
  unfold own
  iintro ⟨H1, H2, H3, H4, H5, H6, H7, H8, H9, H10, H11, H12, H13, H14⟩
  isplitl [H10]
  · iexact H10
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [HX]
  · iexact HX
  isplitl [H11]
  · iexact H11
  isplitl [H12]
  · iexact H12
  isplitl [H13]
  · iexact H13
  iexact H14

theorem Runs.load10 (off size : Fin S56x256.rank → ℕ) (inb : ∀ a, off a + size a ≤ S56x256.size a)
    (hl : M.m10.view.LoadsAt (Rect.unit off size inb).toLoadRect) :
    Runs (F := F) 𝒱 c M (Prog.lift (.load M.m10 (Rect.unit off size inb).toLoadRect hl)) (fun S => (S, window S.a10 off size inb)) := by
  intro S K
  refine .trans ?_ (owns_load 𝒱 M.m10 S.a10 off size inb hl K)
  iintro ⟨H, Hk⟩
  icases (own_acc10 S) $$ H with ⟨H, Hc⟩
  isplitl [H]
  · iexact H
  iintro H
  iapply Hk
  iapply (show _ ⊢ own c M S from .rfl)
  iapply Hc
  iexact H

theorem Runs.store10 (off size : Fin S56x256.rank → ℕ) (inb : ∀ a, off a + size a ≤ S56x256.size a)
    (w : (Rect.unit off size inb).shape.Idx → Elt F .f32) (hx : (M.m10.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m10 (Rect.unit off size inb) w Finset.univ hx hm))
      (fun S => ({S with a10 := put S.a10 off size w}, ⟨⟩)) := by
  intro S K
  refine .trans ?_ (owns_store 𝒱 M.m10 S.a10 off size inb w hx hm K)
  iintro ⟨H, Hk⟩
  icases (own_acc10 S) $$ H with ⟨H, Hc⟩
  isplitl [H]
  · iexact H
  iintro H
  iapply Hk
  iapply Hc
  iexact H

theorem own_acc11 (S : St F) : own c M S ⊢ (iprop(owns (c : Thread nD τ) M.m11 fullShare S.a11
    ∗ (∀ X, owns (c : Thread nD τ) M.m11 fullShare X -∗ own c M {S with a11 := X})) : sProp 𝕄) := by
  unfold own
  iintro ⟨H1, H2, H3, H4, H5, H6, H7, H8, H9, H10, H11, H12, H13, H14⟩
  isplitl [H11]
  · iexact H11
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [HX]
  · iexact HX
  isplitl [H12]
  · iexact H12
  isplitl [H13]
  · iexact H13
  iexact H14

theorem Runs.load11 (off size : Fin S64x7168.rank → ℕ) (inb : ∀ a, off a + size a ≤ S64x7168.size a)
    (hl : M.m11.view.LoadsAt (Rect.unit off size inb).toLoadRect) :
    Runs (F := F) 𝒱 c M (Prog.lift (.load M.m11 (Rect.unit off size inb).toLoadRect hl)) (fun S => (S, window S.a11 off size inb)) := by
  intro S K
  refine .trans ?_ (owns_load 𝒱 M.m11 S.a11 off size inb hl K)
  iintro ⟨H, Hk⟩
  icases (own_acc11 S) $$ H with ⟨H, Hc⟩
  isplitl [H]
  · iexact H
  iintro H
  iapply Hk
  iapply (show _ ⊢ own c M S from .rfl)
  iapply Hc
  iexact H

theorem Runs.store11 (off size : Fin S64x7168.rank → ℕ) (inb : ∀ a, off a + size a ≤ S64x7168.size a)
    (w : (Rect.unit off size inb).shape.Idx → Elt F .f32) (hx : (M.m11.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m11 (Rect.unit off size inb) w Finset.univ hx hm))
      (fun S => ({S with a11 := put S.a11 off size w}, ⟨⟩)) := by
  intro S K
  refine .trans ?_ (owns_store 𝒱 M.m11 S.a11 off size inb w hx hm K)
  iintro ⟨H, Hk⟩
  icases (own_acc11 S) $$ H with ⟨H, Hc⟩
  isplitl [H]
  · iexact H
  iintro H
  iapply Hk
  iapply Hc
  iexact H

theorem own_acc12 (S : St F) : own c M S ⊢ (iprop(owns (c : Thread nD τ) M.m12 fullShare S.a12
    ∗ (∀ X, owns (c : Thread nD τ) M.m12 fullShare X -∗ own c M {S with a12 := X})) : sProp 𝕄) := by
  unfold own
  iintro ⟨H1, H2, H3, H4, H5, H6, H7, H8, H9, H10, H11, H12, H13, H14⟩
  isplitl [H12]
  · iexact H12
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [HX]
  · iexact HX
  isplitl [H13]
  · iexact H13
  iexact H14

theorem Runs.load12 (off size : Fin S64x7168.rank → ℕ) (inb : ∀ a, off a + size a ≤ S64x7168.size a)
    (hl : M.m12.view.LoadsAt (Rect.unit off size inb).toLoadRect) :
    Runs (F := F) 𝒱 c M (Prog.lift (.load M.m12 (Rect.unit off size inb).toLoadRect hl)) (fun S => (S, window S.a12 off size inb)) := by
  intro S K
  refine .trans ?_ (owns_load 𝒱 M.m12 S.a12 off size inb hl K)
  iintro ⟨H, Hk⟩
  icases (own_acc12 S) $$ H with ⟨H, Hc⟩
  isplitl [H]
  · iexact H
  iintro H
  iapply Hk
  iapply (show _ ⊢ own c M S from .rfl)
  iapply Hc
  iexact H

theorem Runs.store12 (off size : Fin S64x7168.rank → ℕ) (inb : ∀ a, off a + size a ≤ S64x7168.size a)
    (w : (Rect.unit off size inb).shape.Idx → Elt F .bf16) (hx : (M.m12.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m12 (Rect.unit off size inb) w Finset.univ hx hm))
      (fun S => ({S with a12 := put S.a12 off size w}, ⟨⟩)) := by
  intro S K
  refine .trans ?_ (owns_store 𝒱 M.m12 S.a12 off size inb w hx hm K)
  iintro ⟨H, Hk⟩
  icases (own_acc12 S) $$ H with ⟨H, Hc⟩
  isplitl [H]
  · iexact H
  iintro H
  iapply Hk
  iapply Hc
  iexact H

theorem own_acc13 (S : St F) : own c M S ⊢ (iprop(owns (c : Thread nD τ) M.m13 fullShare S.a13
    ∗ (∀ X, owns (c : Thread nD τ) M.m13 fullShare X -∗ own c M {S with a13 := X})) : sProp 𝕄) := by
  unfold own
  iintro ⟨H1, H2, H3, H4, H5, H6, H7, H8, H9, H10, H11, H12, H13, H14⟩
  isplitl [H13]
  · iexact H13
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [HX]
  · iexact HX
  iexact H14

theorem Runs.load13 (off size : Fin S64x256.rank → ℕ) (inb : ∀ a, off a + size a ≤ S64x256.size a)
    (hl : M.m13.view.LoadsAt (Rect.unit off size inb).toLoadRect) :
    Runs (F := F) 𝒱 c M (Prog.lift (.load M.m13 (Rect.unit off size inb).toLoadRect hl)) (fun S => (S, window S.a13 off size inb)) := by
  intro S K
  refine .trans ?_ (owns_load 𝒱 M.m13 S.a13 off size inb hl K)
  iintro ⟨H, Hk⟩
  icases (own_acc13 S) $$ H with ⟨H, Hc⟩
  isplitl [H]
  · iexact H
  iintro H
  iapply Hk
  iapply (show _ ⊢ own c M S from .rfl)
  iapply Hc
  iexact H

theorem Runs.store13 (off size : Fin S64x256.rank → ℕ) (inb : ∀ a, off a + size a ≤ S64x256.size a)
    (w : (Rect.unit off size inb).shape.Idx → Elt F .bf16) (hx : (M.m13.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m13 (Rect.unit off size inb) w Finset.univ hx hm))
      (fun S => ({S with a13 := put S.a13 off size w}, ⟨⟩)) := by
  intro S K
  refine .trans ?_ (owns_store 𝒱 M.m13 S.a13 off size inb w hx hm K)
  iintro ⟨H, Hk⟩
  icases (own_acc13 S) $$ H with ⟨H, Hc⟩
  isplitl [H]
  · iexact H
  iintro H
  iapply Hk
  iapply Hc
  iexact H

theorem own_acc14 (S : St F) : own c M S ⊢ (iprop(owns (c : Thread nD τ) M.m14 fullShare S.a14
    ∗ (∀ X, owns (c : Thread nD τ) M.m14 fullShare X -∗ own c M {S with a14 := X})) : sProp 𝕄) := by
  unfold own
  iintro ⟨H1, H2, H3, H4, H5, H6, H7, H8, H9, H10, H11, H12, H13, H14⟩
  isplitl [H14]
  · iexact H14
  iintro %X HX
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact HX

theorem Runs.load14 (off size : Fin S64x256.rank → ℕ) (inb : ∀ a, off a + size a ≤ S64x256.size a)
    (hl : M.m14.view.LoadsAt (Rect.unit off size inb).toLoadRect) :
    Runs (F := F) 𝒱 c M (Prog.lift (.load M.m14 (Rect.unit off size inb).toLoadRect hl)) (fun S => (S, window S.a14 off size inb)) := by
  intro S K
  refine .trans ?_ (owns_load 𝒱 M.m14 S.a14 off size inb hl K)
  iintro ⟨H, Hk⟩
  icases (own_acc14 S) $$ H with ⟨H, Hc⟩
  isplitl [H]
  · iexact H
  iintro H
  iapply Hk
  iapply (show _ ⊢ own c M S from .rfl)
  iapply Hc
  iexact H

theorem Runs.store14 (off size : Fin S64x256.rank → ℕ) (inb : ∀ a, off a + size a ≤ S64x256.size a)
    (w : (Rect.unit off size inb).shape.Idx → Elt F .bf16) (hx : (M.m14.access (Rect.unit off size inb)).Stores Finset.univ)
    (hm : (Finset.univ : Finset (Rect.unit off size inb).shape.Idx) = Finset.univ ∨ ∀ a, (Rect.unit off size inb).stride a = 1) :
    Runs (F := F) 𝒱 c M (Prog.lift (.store M.m14 (Rect.unit off size inb) w Finset.univ hx hm))
      (fun S => ({S with a14 := put S.a14 off size w}, ⟨⟩)) := by
  intro S K
  refine .trans ?_ (owns_store 𝒱 M.m14 S.a14 off size inb w hx hm K)
  iintro ⟨H, Hk⟩
  icases (own_acc14 S) $$ H with ⟨H, Hc⟩
  isplitl [H]
  · iexact H
  iintro H
  iapply Hk
  iapply Hc
  iexact H

end Rules

end Cert.KernelIdeal.Tiles

end
-- ==== Proof.Steps.lean ====
/- The kernel body as a function on the contents of its buffers: each phase of a tile, the sweeps, the
   branches of a grid point, the point. -/
module

public import proofs.«01_k».proof.Proof.Runs

@[expose] public section

set_option maxRecDepth 16384

noncomputable section

namespace Cert.KernelIdeal.Tiles

open Idealize.ShloMosaic Idealize.SL.Sem
open Cert.KernelIdeal
open Facts₀ Facts
open Idealize.ShloMosaic.VecWindow (window put)

variable {F : FTy → Type} [FloatOps F]

/-! ## Windows -/

/-- The residual of tile `c` from the point's blocks. -/
def eBlk (w : Vec F S1x256x7168 .bf16) (cd : Vec F S1x256x3584 .i8) (sc : Vec F S1x56x256 .f32) (z : Vec F S56x256 .f32)
    (c : Fin 28) : FVec F S256x256 .bf16 :=
  eTile (window w ![0, 0, 256 * c.val] S1x256x256.size (inbW c)) (window cd ![0, 0, 128 * c.val] S1x256x128.size (inbC c))
    (window sc ![0, (grp₀ c).val, 0] S1x1x256.size (inbS (grp₀ c))) (window z ![(grp₀ c).val, 0] S1x256.size (inbZ (grp₀ c)))
    (window sc ![0, (grp₁ c).val, 0] S1x1x256.size (inbS (grp₁ c))) (window z ![(grp₁ c).val, 0] S1x256.size (inbZ (grp₁ c)))

/-- Tile `c` of slot `n` of the residuals' ring. -/
def tE (X : Vec F S11x7168x256 .bf16) (n : Fin 11) (c : Fin 28) : FVec F S256x256 .bf16 :=
  shapeCast S256x256 (window X ![n.val, 256 * c.val, 0] S1x256x256.size (inbE' n c)) shapeCasts_S1x256x256_S256x256

/-- Tile `c` of a 64-row scratch. -/
def tP {e : EltTy} (X : Vec F S64x7168 e) (c : Fin 28) : Vec F S64x256 e := window X ![0, 256 * c.val] S64x256.size (inbP c)

/-- Tile `c` of a 64-row block. -/
def tO {e : EltTy} (X : Vec F S1x64x7168 e) (c : Fin 28) : Vec F S64x256 e :=
  shapeCast S64x256 (window X ![0, 0, 256 * c.val] S1x64x256.size (inbO c)) shapeCasts_S1x64x256_S64x256

/-- A slot word's slot. -/
abbrev sl (s : BitVec 32) (hs : SlotOk s) : Fin 11 := ⟨(Scalar.indexCast s : Index).toNat, hs⟩

/-! ## The phases on contents -/

section Phases

variable {α : Type}

def preAF (S : St F) : St F × PUnit.{1} :=
  ({S with a10 := put S.a10 ![0, 0] S56x256.size (shapeCast S56x256 (zfOf (window S.a4 ![0, 0, 0] S1x56x256.size inb_S1x56x256_S1x56x256_0_0_0)) shapeCasts_S56x256_S56x256)}, ⟨⟩)

def phAF (s : BitVec 32) (hs : SlotOk s) (c : Fin 28) (S : St F) : St F × FVec F S64x256 .f32 :=
  ({S with a9 := put S.a9 (offE s c) S1x256x256.size (shapeCast S1x256x256 (eBlk S.a1 S.a2 S.a3 S.a10 c) shapeCasts_S256x256_S1x256x256)},
   dotOf (tO S.a5 c) (eBlk S.a1 S.a2 S.a3 S.a10 c))

def phPF (s : BitVec 32) (hs : SlotOk s) (b : BitVec 1) (a : FVec F S64x256 .bf16) (c : Fin 28) (S : St F) : St F × PUnit.{1} :=
  ({S with a11 := put S.a11 ![0, 256 * c.val] S64x256.size (shapeCast S64x256 (accOf b (tP S.a11 c) (dotTOf a (tE S.a9 (sl s hs) c))) shapeCasts_S64x256_S64x256)}, ⟨⟩)

def phYF (s : BitVec 32) (hs : SlotOk s) (c : Fin 28) (S : St F) : St F × FVec F S64x256 .f32 :=
  (S, dotOf (tP S.a12 c) (tE S.a9 (sl s hs) c))

def phZF (s : BitVec 32) (hs : SlotOk s) (b : BitVec 1) (a : FVec F S64x256 .bf16) (c : Fin 28) (S : St F) : St F × PUnit.{1} :=
  ({S with a7 := put S.a7 ![0, 0, 256 * c.val] S1x64x256.size (shapeCast S1x64x256 (accOf b (tO S.a7 c) (dotTOf a (tE S.a9 (sl s hs) c))) shapeCasts_S64x256_S1x64x256)}, ⟨⟩)

def post8F (y : FVec F S64x256 .f32) (S : St F) : St F × PUnit.{1} :=
  ({S with a8 := put S.a8 ![0, 0, 0] S1x64x256.size (shapeCast S1x64x256 y shapeCasts_S64x256_S1x64x256), a13 := put S.a13 ![0, 0] S64x256.size (shapeCast S64x256 (truncf .bf16 y bitsLt_bf16_f32) shapeCasts_S64x256_S64x256)}, ⟨⟩)

def post6F (y : FVec F S64x256 .f32) (S : St F) : St F × PUnit.{1} :=
  ({S with a6 := put S.a6 ![0, 0, 0] S1x64x256.size (shapeCast S1x64x256 y shapeCasts_S64x256_S1x64x256), a14 := put S.a14 ![0, 0] S64x256.size (shapeCast S64x256 (truncf .bf16 y bitsLt_bf16_f32) shapeCasts_S64x256_S64x256)}, ⟨⟩)

def rd13F (S : St F) : St F × FVec F S64x256 .bf16 := (S, window S.a13 ![0, 0] S64x256.size inb_S64x256_S64x256_0_0)
def rd14F (S : St F) : St F × FVec F S64x256 .bf16 := (S, window S.a14 ![0, 0] S64x256.size inb_S64x256_S64x256_0_0)

def phBF (S : St F) : St F × PUnit.{1} :=
  ({S with a12 := put S.a12 ![0, 0] S64x7168.size (shapeCast S64x7168 (truncf .bf16 (window S.a11 ![0, 0] S64x7168.size inb_S64x7168_S64x7168_0_0) bitsLt_bf16_f32) shapeCasts_S64x7168_S64x7168)}, ⟨⟩)

variable {𝒱 : Variants} {c₀ : Dev nD} {M : Ms}

theorem runs_preA : Runs (F := F) 𝒱 c₀ M (preA M.m4 M.h4 M.m10 M.h10) preAF := by
  unfold preA
  refine Runs.congr (Runs.bind (Runs.load4 _ _ _ _) fun v => Runs.bind (Runs.load10 _ _ _ _) fun _ => Runs.store10 _ _ _ _ _ _) ?_
  rfl

theorem runs_phA (s : BitVec 32) (hs : SlotOk s) (c : Fin 28) :
    Runs (F := F) 𝒱 c₀ M (phA M.m1 M.h1 M.m2 M.h2 M.m3 M.h3 M.m5 M.h5 M.m9 M.h9 M.m10 M.h10 s hs c) (phAF s hs c) := by
  unfold phA
  refine Runs.congr (Runs.bind (Runs.load1 _ _ _ _) fun w => Runs.bind (Runs.load2 _ _ _ _) fun cd =>
    Runs.bind (Runs.load3 _ _ _ _) fun s₀ => Runs.bind (Runs.load10 _ _ _ _) fun z₀ =>
    Runs.bind (Runs.load3 _ _ _ _) fun s₁ => Runs.bind (Runs.load10 _ _ _ _) fun z₁ =>
    Runs.bind (Runs.load9 _ _ _ _) fun _ => Runs.bind (Runs.store9 _ _ _ _ _ _) fun _ =>
    Runs.bind (Runs.load5 _ _ _ _) fun o => Runs.pure _) ?_
  rfl

theorem runs_phP (s : BitVec 32) (hs : SlotOk s) (b : BitVec 1) (a : FVec F S64x256 .bf16) (c : Fin 28) :
    Runs (F := F) 𝒱 c₀ M (phP M.m9 M.h9 M.m11 M.h11 s hs b a c) (phPF s hs b a c) := by
  unfold phP
  refine Runs.congr (Runs.bind (Runs.load9 _ _ _ _) fun e => Runs.bind (Runs.load11 _ _ _ _) fun p =>
    Runs.bind (Runs.load11 _ _ _ _) fun _ => Runs.store11 _ _ _ _ _ _) ?_
  rfl

theorem runs_phY (s : BitVec 32) (hs : SlotOk s) (c : Fin 28) :
    Runs (F := F) 𝒱 c₀ M (phY M.m9 M.h9 M.m12 M.h12 s hs c) (phYF s hs c) := by
  unfold phY
  refine Runs.congr (Runs.bind (Runs.load12 _ _ _ _) fun a => Runs.bind (Runs.load9 _ _ _ _) fun e => Runs.pure _) ?_
  rfl

theorem runs_phZ (s : BitVec 32) (hs : SlotOk s) (b : BitVec 1) (a : FVec F S64x256 .bf16) (c : Fin 28) :
    Runs (F := F) 𝒱 c₀ M (phZ M.m7 M.h7 M.m9 M.h9 s hs b a c) (phZF s hs b a c) := by
  unfold phZ
  refine Runs.congr (Runs.bind (Runs.load9 _ _ _ _) fun e => Runs.bind (Runs.load7 _ _ _ _) fun p =>
    Runs.bind (Runs.load7 _ _ _ _) fun _ => Runs.store7 _ _ _ _ _ _) ?_
  rfl

theorem runs_post8 (y : FVec F S64x256 .f32) : Runs (F := F) 𝒱 c₀ M (post M.m8 M.h8 M.m13 M.h13 y) (post8F y) := by
  unfold post
  refine Runs.congr (Runs.bind (Runs.load8 _ _ _ _) fun _ => Runs.bind (Runs.store8 _ _ _ _ _ _) fun _ =>
    Runs.bind (Runs.load13 _ _ _ _) fun _ => Runs.store13 _ _ _ _ _ _) ?_
  rfl

theorem runs_post6 (y : FVec F S64x256 .f32) : Runs (F := F) 𝒱 c₀ M (post M.m6 M.h6 M.m14 M.h14 y) (post6F y) := by
  unfold post
  refine Runs.congr (Runs.bind (Runs.load6 _ _ _ _) fun _ => Runs.bind (Runs.store6 _ _ _ _ _ _) fun _ =>
    Runs.bind (Runs.load14 _ _ _ _) fun _ => Runs.store14 _ _ _ _ _ _) ?_
  rfl

theorem runs_rd13 : Runs (F := F) 𝒱 c₀ M (rd13 M.m13 M.h13) rd13F := by
  unfold rd13
  refine Runs.congr (Runs.bind (Runs.load13 _ _ _ _) fun _ => Runs.pure _) ?_
  rfl

theorem runs_rd14 : Runs (F := F) 𝒱 c₀ M (rd13 M.m14 M.h14) rd14F := by
  unfold rd13
  refine Runs.congr (Runs.bind (Runs.load14 _ _ _ _) fun _ => Runs.pure _) ?_
  rfl

theorem runs_phB : Runs (F := F) 𝒱 c₀ M (phB M.m11 M.h11 M.m12 M.h12) phBF := by
  unfold phB
  refine Runs.congr (Runs.bind (Runs.load11 _ _ _ _) fun _ => Runs.bind (Runs.load12 _ _ _ _) fun _ => Runs.store12 _ _ _ _ _ _) ?_
  rfl

end Phases

/-! ## The sweeps on contents -/

section Sweeps

def sweepF (T : Fin 28 → St F → St F × FVec F S64x256 .f32) :
    (n c : Nat) → c + n = 28 → FVec F S64x256 .f32 → St F → St F × FVec F S64x256 .f32
  | 0, _, _, acc, S => (S, acc)
  | n + 1, c, h, acc, S => sweepF T n (c + 1) (by omega) (addf acc (T ⟨c, by omega⟩ S).2) (T ⟨c, by omega⟩ S).1

def sweepAllF (T : Fin 28 → St F → St F × FVec F S64x256 .f32) (S : St F) : St F × FVec F S64x256 .f32 :=
  sweepF T 27 1 rfl (T ⟨0, by omega⟩ S).2 (T ⟨0, by omega⟩ S).1

def sweep₂F (T : Fin 28 → St F → St F × (FVec F S64x256 .f32 × FVec F S64x256 .f32)) :
    (n c : Nat) → c + n = 28 → FVec F S64x256 .f32 → FVec F S64x256 .f32 → St F → St F × (FVec F S64x256 .f32 × FVec F S64x256 .f32)
  | 0, _, _, a, b, S => (S, (a, b))
  | n + 1, c, h, a, b, S => sweep₂F T n (c + 1) (by omega) (addf a (T ⟨c, by omega⟩ S).2.1) (addf b (T ⟨c, by omega⟩ S).2.2) (T ⟨c, by omega⟩ S).1

def sweepAll₂F (T : Fin 28 → St F → St F × (FVec F S64x256 .f32 × FVec F S64x256 .f32)) (S : St F) : St F × (FVec F S64x256 .f32 × FVec F S64x256 .f32) :=
  sweep₂F T 27 1 rfl (T ⟨0, by omega⟩ S).2.1 (T ⟨0, by omega⟩ S).2.2 (T ⟨0, by omega⟩ S).1

def sweep₀F (T : Fin 28 → St F → St F × PUnit.{1}) : (n c : Nat) → c + n = 28 → St F → St F × PUnit.{1}
  | 0, _, _, S => (S, ⟨⟩)
  | n + 1, c, h, S => sweep₀F T n (c + 1) (by omega) (T ⟨c, by omega⟩ S).1

variable {𝒱 : Variants} {c₀ : Dev nD} {M : Ms}

theorem runs_sweep {T : Fin 28 → Prog (TpuEff nD τ sig (Elt F) Λ₀ .tc) (FVec F S64x256 .f32)} {f : Fin 28 → St F → St F × FVec F S64x256 .f32}
    (hT : ∀ c, Runs 𝒱 c₀ M (T c) (f c)) : ∀ (n c : Nat) (h : c + n = 28) (acc : FVec F S64x256 .f32), Runs 𝒱 c₀ M (sweep T n c h acc) (sweepF f n c h acc) := by
  intro n
  induction n with
  | zero => intro c h acc; exact Runs.pure acc
  | succ n ih =>
    intro c h acc
    unfold sweep
    exact Runs.congr (Runs.bind (hT _) fun d => ih (c + 1) (by omega) (addf acc d)) (by rfl)

theorem runs_sweepAll {T : Fin 28 → Prog (TpuEff nD τ sig (Elt F) Λ₀ .tc) (FVec F S64x256 .f32)} {f : Fin 28 → St F → St F × FVec F S64x256 .f32}
    (hT : ∀ c, Runs 𝒱 c₀ M (T c) (f c)) : Runs 𝒱 c₀ M (sweepAll T) (sweepAllF f) := by
  unfold sweepAll
  exact Runs.congr (Runs.bind (hT _) fun d => runs_sweep hT 27 1 rfl d) (by rfl)

theorem runs_sweep₂ {T : Fin 28 → Prog (TpuEff nD τ sig (Elt F) Λ₀ .tc) (FVec F S64x256 .f32 × FVec F S64x256 .f32)} {f : Fin 28 → St F → St F × (FVec F S64x256 .f32 × FVec F S64x256 .f32)}
    (hT : ∀ c, Runs 𝒱 c₀ M (T c) (f c)) : ∀ (n c : Nat) (h : c + n = 28) (a b : FVec F S64x256 .f32), Runs 𝒱 c₀ M (sweep₂ T n c h a b) (sweep₂F f n c h a b) := by
  intro n
  induction n with
  | zero => intro c h a b; exact Runs.pure (a, b)
  | succ n ih =>
    intro c h a b
    unfold sweep₂
    exact Runs.congr (Runs.bind (hT _) fun d => ih (c + 1) (by omega) (addf a d.1) (addf b d.2)) (by rfl)

theorem runs_sweepAll₂ {T : Fin 28 → Prog (TpuEff nD τ sig (Elt F) Λ₀ .tc) (FVec F S64x256 .f32 × FVec F S64x256 .f32)} {f : Fin 28 → St F → St F × (FVec F S64x256 .f32 × FVec F S64x256 .f32)}
    (hT : ∀ c, Runs 𝒱 c₀ M (T c) (f c)) : Runs 𝒱 c₀ M (sweepAll₂ T) (sweepAll₂F f) := by
  unfold sweepAll₂
  exact Runs.congr (Runs.bind (hT _) fun d => runs_sweep₂ hT 27 1 rfl d.1 d.2) (by rfl)

theorem runs_sweep₀ {T : Fin 28 → Prog (TpuEff nD τ sig (Elt F) Λ₀ .tc) PUnit} {f : Fin 28 → St F → St F × PUnit.{1}}
    (hT : ∀ c, Runs 𝒱 c₀ M (T c) (f c)) : ∀ (n c : Nat) (h : c + n = 28), Runs 𝒱 c₀ M (sweep₀ T n c h) (sweep₀F f n c h) := by
  intro n
  induction n with
  | zero => intro c h; exact Runs.pure PUnit.unit
  | succ n ih =>
    intro c h
    unfold sweep₀
    exact Runs.congr (Runs.bind (hT _) fun d => ih (c + 1) (by omega)) (by rfl)

end Sweeps

end Cert.KernelIdeal.Tiles

end
-- ==== Proof.Branches.lean ====
/- The kernel body as a function on the contents of its buffers: the branches of a grid point, the point. -/
module

public import proofs.«01_k».proof.Proof.Steps

@[expose] public section

set_option maxRecDepth 16384

noncomputable section

namespace Cert.KernelIdeal.Tiles

open Idealize.ShloMosaic Idealize.SL.Sem
open Cert.KernelIdeal
open Facts₀ Facts
open Idealize.ShloMosaic.VecWindow (window put)

variable {F : FTy → Type} [FloatOps F]

/-! ## The branches on contents -/

section Branches

variable (i : grid0.Coords)

def br1F (hA : SlotOk (slA i)) (S : St F) : St F × PUnit.{1} :=
  let r := sweepAllF (phAF (slA i) hA) (preAF S).1
  post8F r.2 r.1

def br2F (hA : SlotOk (slA i)) (hP : SlotOk (slP i)) (S : St F) : St F × PUnit.{1} :=
  let a := (rd13F (preAF S).1).2
  let r := sweepAllF (fun c S => ((phPF (slP i) hP (fsP i) a c (phAF (slA i) hA c S).1).1, (phAF (slA i) hA c S).2)) (preAF S).1
  post8F r.2 r.1

def br3F (hA : SlotOk (slA i)) (hP : SlotOk (slP i)) (hY : SlotOk (slY i)) (hZ : SlotOk (slZ i)) (S : St F) : St F × PUnit.{1} :=
  let a := (rd13F (preAF S).1).2
  let b := (rd14F (preAF S).1).2
  let r := sweepAll₂F (fun c S =>
    let S₁ := (phPF (slP i) hP (fsP i) a c (phAF (slA i) hA c S).1).1
    ((phZF (slZ i) hZ (fsZ i) b c S₁).1, ((phAF (slA i) hA c S).2, (phYF (slY i) hY c S₁).2))) (preAF S).1
  post6F r.2.2 (post8F r.2.1 r.1).1

def br4F (hP : SlotOk (slP i)) (hZ : SlotOk (slZ i)) (S : St F) : St F × PUnit.{1} :=
  let a := (rd13F S).2
  let b := (rd14F S).2
  sweep₀F (fun c S => phZF (slZ i) hZ (fsZ i) b c (phPF (slP i) hP (fsP i) a c S).1) 28 0 rfl S

def br5F (hY : SlotOk (slY i)) (S : St F) : St F × PUnit.{1} :=
  let r := sweepAllF (phYF (slY i) hY) S
  post6F r.2 r.1

def br6F (hY : SlotOk (slY i)) (hZ : SlotOk (slZ i)) (S : St F) : St F × PUnit.{1} :=
  let b := (rd14F S).2
  let r := sweepAllF (fun c S => ((phZF (slZ i) hZ (fsZ i) b c S).1, (phYF (slY i) hY c S).2)) S
  post6F r.2 r.1

def br7F (hZ : SlotOk (slZ i)) (S : St F) : St F × PUnit.{1} :=
  sweep₀F (phZF (slZ i) hZ (fsZ i) (rd14F S).2) 28 0 rfl S

variable {𝒱 : Variants} {c₀ : Dev nD} {M : Ms}

theorem runs_br1 (hA : SlotOk (slA i)) : Runs (F := F) 𝒱 c₀ M (br1 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hA) (br1F i hA) := by
  unfold br1
  refine Runs.congr (Runs.bind runs_preA fun _ => Runs.bind (runs_sweepAll fun c => runs_phA _ _ c) fun y => runs_post8 y) ?_
  rfl

theorem runs_br2 (hA : SlotOk (slA i)) (hP : SlotOk (slP i)) : Runs (F := F) 𝒱 c₀ M (br2 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hA hP) (br2F i hA hP) := by
  unfold br2
  refine Runs.congr (Runs.bind runs_preA fun _ => Runs.bind runs_rd13 fun a =>
    Runs.bind (runs_sweepAll fun c => Runs.bind (runs_phA _ _ c) fun d => Runs.bind (runs_phP _ _ _ a c) fun _ => Runs.pure d) fun y => runs_post8 y) ?_
  rfl

theorem runs_br3 (hA : SlotOk (slA i)) (hP : SlotOk (slP i)) (hY : SlotOk (slY i)) (hZ : SlotOk (slZ i)) :
    Runs (F := F) 𝒱 c₀ M (br3 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hA hP hY hZ) (br3F i hA hP hY hZ) := by
  unfold br3
  refine Runs.congr (Runs.bind runs_preA fun _ => Runs.bind runs_rd13 fun a => Runs.bind runs_rd14 fun b =>
    Runs.bind (runs_sweepAll₂ fun c => Runs.bind (runs_phA _ _ c) fun d => Runs.bind (runs_phP _ _ _ a c) fun _ =>
      Runs.bind (runs_phY _ _ c) fun d' => Runs.bind (runs_phZ _ _ _ b c) fun _ => Runs.pure (d, d')) fun y =>
    Runs.bind (runs_post8 y.1) fun _ => runs_post6 y.2) ?_
  rfl

theorem runs_br4 (hP : SlotOk (slP i)) (hZ : SlotOk (slZ i)) : Runs (F := F) 𝒱 c₀ M (br4 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hP hZ) (br4F i hP hZ) := by
  unfold br4
  refine Runs.congr (Runs.bind runs_rd13 fun a => Runs.bind runs_rd14 fun b =>
    runs_sweep₀ (fun c => Runs.bind (runs_phP _ _ _ a c) fun _ => runs_phZ _ _ _ b c) 28 0 rfl) ?_
  rfl

theorem runs_br5 (hY : SlotOk (slY i)) : Runs (F := F) 𝒱 c₀ M (br5 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hY) (br5F i hY) := by
  unfold br5
  refine Runs.congr (Runs.bind (runs_sweepAll fun c => runs_phY _ _ c) fun y => runs_post6 y) ?_
  rfl

theorem runs_br6 (hY : SlotOk (slY i)) (hZ : SlotOk (slZ i)) : Runs (F := F) 𝒱 c₀ M (br6 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hY hZ) (br6F i hY hZ) := by
  unfold br6
  refine Runs.congr (Runs.bind runs_rd14 fun b => Runs.bind (runs_sweepAll fun c => Runs.bind (runs_phY _ _ c) fun d =>
    Runs.bind (runs_phZ _ _ _ b c) fun _ => Runs.pure d) fun y => runs_post6 y) ?_
  rfl

theorem runs_br7 (hZ : SlotOk (slZ i)) : Runs (F := F) 𝒱 c₀ M (br7 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 hZ) (br7F i hZ) := by
  unfold br7
  refine Runs.congr (Runs.bind runs_rd14 fun b => runs_sweep₀ (fun c => runs_phZ _ _ _ b c) 28 0 rfl) ?_
  rfl

/-- A guarded branch and what follows it. -/
theorem Runs.guard {β : Type} {P : Prop} [Decidable P] {p : P → Prog (TpuEff nD τ sig (Elt F) Λ₀ .tc) PUnit} {f : P → St F → St F × PUnit.{1}}
    {k : PUnit → Prog (TpuEff nD τ sig (Elt F) Λ₀ .tc) β} {g : St F → St F × β}
    (hp : ∀ h, Runs 𝒱 c₀ M (p h) (f h)) (hk : Runs 𝒱 c₀ M (k ⟨⟩) g) :
    Runs 𝒱 c₀ M (if h : P then p h >>= k else k ⟨⟩) (fun S => g (if h : P then (f h S).1 else S)) := by
  by_cases h : P
  · simp only [h, dite_true]; exact Runs.bind (hp h) fun _ => hk
  · simp only [h, dite_false]; exact hk

/-- What the last phase's condition is computed from. -/
abbrev finOf : Σ' (_ : BitVec 1) (_ : BitVec 32), BitVec 32 := ⟨Scalar.cmpi .sge (tOf i) 8#32, Scalar.remsi (tOf i) 8#32, 0#32⟩

/-- The buffers after the phases of point `i` from branch 7 on. -/
def head7F (S : St F) : St F := (if h : k0_cond7 i = 1#1 then (br7F i (k0_off281_inb i h 0) S).1 else S)

theorem runs_head7 : Runs (F := F) 𝒱 c₀ M (head7 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (head7F i S, finOf i)) := by
  unfold head7
  exact Runs.congr (Runs.guard (fun h => runs_br7 i (k0_off281_inb i h 0)) (Runs.pure (finOf i))) (by rfl)

/-- The buffers after the phases of point `i` from branch 6 on. -/
def head6F (S : St F) : St F := head7F i (if h : k0_cond6 i = 1#1 then (br6F i (k0_off253_inb i h 0 0) (k0_off253_inb i h 1 0) S).1 else S)

theorem runs_head6 : Runs (F := F) 𝒱 c₀ M (head6 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (head6F i S, finOf i)) := by
  unfold head6
  exact Runs.congr (Runs.guard (fun h => runs_br6 i (k0_off253_inb i h 0 0) (k0_off253_inb i h 1 0)) (runs_head7 i)) (by rfl)

/-- The buffers after the phases of point `i` from branch 5 on. -/
def head5F (S : St F) : St F := head6F i (if h : k0_cond5 i = 1#1 then (br5F i (k0_off225_inb i h 0) S).1 else S)

theorem runs_head5 : Runs (F := F) 𝒱 c₀ M (head5 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (head5F i S, finOf i)) := by
  unfold head5
  exact Runs.congr (Runs.guard (fun h => runs_br5 i (k0_off225_inb i h 0)) (runs_head6 i)) (by rfl)

/-- The buffers after the phases of point `i` from branch 4 on. -/
def head4F (S : St F) : St F := head5F i (if h : k0_cond4 i = 1#1 then (br4F i (k0_off169_inb i h 0) (k0_off170_inb i h 0) S).1 else S)

theorem runs_head4 : Runs (F := F) 𝒱 c₀ M (head4 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (head4F i S, finOf i)) := by
  unfold head4
  exact Runs.congr (Runs.guard (fun h => runs_br4 i (k0_off169_inb i h 0) (k0_off170_inb i h 0)) (runs_head5 i)) (by rfl)

/-- The buffers after the phases of point `i` from branch 3 on. -/
def head3F (S : St F) : St F := head4F i (if h : k0_cond3 i = 1#1 then (br3F i (k0_off85_inb i h 0) (k0_off86_inb i h 0) (k0_off87_inb i h 0 0) (k0_off87_inb i h 1 0) S).1 else S)

theorem runs_head3 : Runs (F := F) 𝒱 c₀ M (head3 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (head3F i S, finOf i)) := by
  unfold head3
  exact Runs.congr (Runs.guard (fun h => runs_br3 i (k0_off85_inb i h 0) (k0_off86_inb i h 0) (k0_off87_inb i h 0 0) (k0_off87_inb i h 1 0)) (runs_head4 i)) (by rfl)

/-- The buffers after the phases of point `i` from branch 2 on. -/
def head2F (S : St F) : St F := head3F i (if h : k0_cond2 i = 1#1 then (br2F i (k0_off29_inb i h 0) (k0_off30_inb i h 0) S).1 else S)

theorem runs_head2 : Runs (F := F) 𝒱 c₀ M (head2 i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (head2F i S, finOf i)) := by
  unfold head2
  exact Runs.congr (Runs.guard (fun h => runs_br2 i (k0_off29_inb i h 0) (k0_off30_inb i h 0)) (runs_head3 i)) (by rfl)

/-- The buffers after the phases of point `i`. -/
def headF (S : St F) : St F := head2F i (if h : k0_cond1 i = 1#1 then (br1F i (k0_off1_inb i h 0) S).1 else S)

theorem runs_head : Runs (F := F) 𝒱 c₀ M (head i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (headF i S, finOf i)) := by
  unfold head
  exact Runs.congr (Runs.guard (fun h => runs_br1 i (k0_off1_inb i h 0)) (runs_head2 i)) (by rfl)

/-- The condition of the last phase. -/
abbrev condB : Prop := Scalar.cmpi .ne (Scalar.extui (Scalar.andi (Scalar.cmpi .sge (tOf i) 8#32)
  (Scalar.cmpi .eq (Scalar.remsi (tOf i) 8#32) 0#32)) : BitVec 32) 0#32 = 1#1

/-- The buffers after point `i`. -/
def bodyF (S : St F) : St F := if condB i then (phBF (headF i S)).1 else headF i S

/-- THE POINT: the body at point `i` runs as `bodyF i`. -/
theorem runs_body : Runs (F := F) 𝒱 c₀ M (body i M.m1 M.h1 M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14) (fun S => (bodyF i S, ⟨⟩)) := by
  unfold body
  refine Runs.congr (Runs.bind (runs_head i) (g := fun x S => (if Scalar.cmpi .ne (Scalar.extui (Scalar.andi x.1 (Scalar.cmpi .eq x.2.1 x.2.2)) : BitVec 32) 0#32 = 1#1
    then (phBF S).1 else S, ⟨⟩)) fun x => ?_) (by rfl)
  by_cases h : Scalar.cmpi .ne (Scalar.extui (Scalar.andi x.1 (Scalar.cmpi .eq x.2.1 x.2.2)) : BitVec 32) 0#32 = 1#1
  · simp only [h, dite_true, if_true]
    exact Runs.congr (Runs.bind runs_phB fun _ => Runs.pure PUnit.unit) (by rfl)
  · simp only [h, dite_false, if_false]
    exact Runs.congr (Runs.bind (Runs.pure PUnit.unit) fun _ => Runs.pure PUnit.unit) (by rfl)

end Branches

end Cert.KernelIdeal.Tiles

end
-- ==== Proof.Pure.lean ====
/- What a grid point leaves in its buffers, tile by tile: one statement for the four phases, whichever run. -/
module

public import proofs.«01_k».proof.Proof.Branches
public import Idealize.ShloMosaic.Lib.Pipeline.Value

@[expose] public section

set_option maxRecDepth 16384

noncomputable section

namespace Cert.KernelIdeal.Tiles

open Idealize.ShloMosaic Idealize.SL.Sem
open Cert.KernelIdeal
open Facts₀ Facts
open Idealize.ShloMosaic.VecWindow (window put window_put_same window_put_of_disjoint)
open Idealize.ShloMosaic.Pipeline

variable {F : FTy → Type} [FloatOps F]

/-! ## Windows after a put -/

/-- A put over the whole shape is the payload. -/
theorem put_full {s : Shape} {α : Type} (x w : s.Idx → α) (off : Fin s.rank → ℕ) (h : ∀ a, off a = 0) : put x off s.size w = w := by
  funext y
  have hy : ∀ a, off a ≤ (y a).val ∧ (y a).val < off a + s.size a := fun a => by
    have := (y a).isLt; have := h a; omega
  show (if h : _ then w (Rect.unitLocal (s := s) (off := off) (size := s.size) y h) else x y) = w y
  rw [dif_pos hy]
  exact congrArg w (funext fun a => Fin.ext (by show (y a).val - off a = (y a).val; rw [h a]; rfl))

/-- The window over the whole shape is the array. -/
theorem window_full {s : Shape} {α : Type} (x : s.Idx → α) (off : Fin s.rank → ℕ) (inb : ∀ a, off a + s.size a ≤ s.size a) :
    window x off s.size inb = x := by
  funext y
  exact congrArg x (funext fun a => Fin.ext (by
    show off a + 1 * (y a).val = (y a).val
    have := inb a; omega))

theorem tE_put (X : Vec F S11x7168x256 .bf16) (s : BitVec 32) (hs : SlotOk s) (c : Fin 28) (e : FVec F S256x256 .bf16) (n : Fin 11) (k : Fin 28) :
    tE (F := F) (put X (offE s c) S1x256x256.size (shapeCast S1x256x256 e shapeCasts_S256x256_S1x256x256)) n k
      = if n = sl s hs ∧ k = c then e else tE X n k := by
  unfold tE
  by_cases h : n = sl s hs ∧ k = c
  · rw [if_pos h]
    obtain ⟨rfl, rfl⟩ := h
    rw [window_put_same]; exact shapeCast_shapeCast _ _ _
  · rw [if_neg h]
    by_cases hn : n = sl s hs
    · have hk : k ≠ c := fun hk => h ⟨hn, hk⟩
      rw [window_put_of_disjoint X (offE s c) S1x256x256.size ![n.val, 256 * k.val, 0] S1x256x256.size (inbE' n k) _ (1 : Fin 3) (by
        have : k.val ≠ c.val := fun e => hk (Fin.ext e)
        show 256 * k.val + 256 ≤ 256 * c.val ∨ 256 * c.val + 256 ≤ 256 * k.val
        omega)]
    · rw [window_put_of_disjoint X (offE s c) S1x256x256.size ![n.val, 256 * k.val, 0] S1x256x256.size (inbE' n k) _ (0 : Fin 3) (by
        have : n.val ≠ (Scalar.indexCast s : Index).toNat := fun e => hn (Fin.ext e)
        show n.val + 1 ≤ (Scalar.indexCast s : Index).toNat ∨ (Scalar.indexCast s : Index).toNat + 1 ≤ n.val
        omega)]

theorem tP_put {e : EltTy} (X : Vec F S64x7168 e) (c : Fin 28) (w : Vec F S64x256 e) (k : Fin 28) :
    tP (F := F) (e := e) (put X ![0, 256 * c.val] S64x256.size (shapeCast S64x256 w shapeCasts_S64x256_S64x256)) k = if k = c then w else tP X k := by
  unfold tP
  rw [shapeCast_self]
  by_cases hk : k = c
  · rw [if_pos hk]; subst hk; rw [window_put_same]
  · rw [if_neg hk]
    rw [window_put_of_disjoint X ![0, 256 * c.val] S64x256.size ![0, 256 * k.val] S64x256.size (inbP k) _ (1 : Fin 2) (by
      have : k.val ≠ c.val := fun e => hk (Fin.ext e)
      show 256 * k.val + 256 ≤ 256 * c.val ∨ 256 * c.val + 256 ≤ 256 * k.val
      omega)]

theorem tO_put {e : EltTy} (X : Vec F S1x64x7168 e) (c : Fin 28) (w : Vec F S64x256 e) (k : Fin 28) :
    tO (F := F) (e := e) (put X ![0, 0, 256 * c.val] S1x64x256.size (shapeCast S1x64x256 w shapeCasts_S64x256_S1x64x256)) k = if k = c then w else tO X k := by
  unfold tO
  by_cases hk : k = c
  · rw [if_pos hk]; subst hk; rw [window_put_same]; exact shapeCast_shapeCast _ _ _
  · rw [if_neg hk]
    rw [window_put_of_disjoint X ![0, 0, 256 * c.val] S1x64x256.size ![0, 0, 256 * k.val] S1x64x256.size (inbO k) _ (2 : Fin 3) (by
      have : k.val ≠ c.val := fun e => hk (Fin.ext e)
      show 256 * k.val + 256 ≤ 256 * c.val ∨ 256 * c.val + 256 ≤ 256 * k.val
      omega)]

/-! ## Sums over the tiles -/

/-- The shares of tiles `c`, `c + 1`, … (`n` of them) added onto `acc`, one after another. -/
def foldT (sh : Fin 28 → FVec F S64x256 .f32) : (n c : Nat) → c + n = 28 → FVec F S64x256 .f32 → FVec F S64x256 .f32
  | 0, _, _, acc => acc
  | n + 1, c, h, acc => foldT sh n (c + 1) (by omega) (addf acc (sh ⟨c, by omega⟩))

/-- The sum of the shares of all tiles. -/
def sumT (sh : Fin 28 → FVec F S64x256 .f32) : FVec F S64x256 .f32 := foldT sh 27 1 rfl (sh ⟨0, by omega⟩)

theorem sweepF_inv {T : Fin 28 → St F → St F × FVec F S64x256 .f32} {I : ℕ → St F → Prop} {sh : Fin 28 → FVec F S64x256 .f32}
    (hT : ∀ c S, I c.val S → I (c.val + 1) (T c S).1 ∧ (T c S).2 = sh c) :
    ∀ (n c : Nat) (h : c + n = 28) (acc : FVec F S64x256 .f32) (S : St F), I c S →
      I 28 (sweepF T n c h acc S).1 ∧ (sweepF T n c h acc S).2 = foldT sh n c h acc := by
  intro n
  induction n with
  | zero => intro c h acc S hI; have : c = 28 := by omega
            subst this; exact ⟨hI, rfl⟩
  | succ n ih =>
    intro c h acc S hI
    unfold sweepF foldT
    have h1 := hT ⟨c, by omega⟩ S hI
    rw [h1.2]
    exact ih (c + 1) (by omega) _ _ h1.1

theorem sweepAllF_inv {T : Fin 28 → St F → St F × FVec F S64x256 .f32} {I : ℕ → St F → Prop} {sh : Fin 28 → FVec F S64x256 .f32}
    (hT : ∀ c S, I c.val S → I (c.val + 1) (T c S).1 ∧ (T c S).2 = sh c) (S : St F) (h0 : I 0 S) :
    I 28 (sweepAllF T S).1 ∧ (sweepAllF T S).2 = sumT sh := by
  have h1 := hT ⟨0, by omega⟩ S h0
  unfold sweepAllF sumT
  rw [h1.2]
  exact sweepF_inv hT 27 1 rfl _ _ h1.1

theorem sweep₂F_inv {T : Fin 28 → St F → St F × (FVec F S64x256 .f32 × FVec F S64x256 .f32)} {I : ℕ → St F → Prop} {sh sh' : Fin 28 → FVec F S64x256 .f32}
    (hT : ∀ c S, I c.val S → I (c.val + 1) (T c S).1 ∧ (T c S).2 = (sh c, sh' c)) :
    ∀ (n c : Nat) (h : c + n = 28) (a b : FVec F S64x256 .f32) (S : St F), I c S →
      I 28 (sweep₂F T n c h a b S).1 ∧ (sweep₂F T n c h a b S).2 = (foldT sh n c h a, foldT sh' n c h b) := by
  intro n
  induction n with
  | zero => intro c h a b S hI; have : c = 28 := by omega
            subst this; exact ⟨hI, rfl⟩
  | succ n ih =>
    intro c h a b S hI
    unfold sweep₂F foldT
    have h1 := hT ⟨c, by omega⟩ S hI
    rw [h1.2]
    exact ih (c + 1) (by omega) _ _ _ h1.1

theorem sweepAll₂F_inv {T : Fin 28 → St F → St F × (FVec F S64x256 .f32 × FVec F S64x256 .f32)} {I : ℕ → St F → Prop} {sh sh' : Fin 28 → FVec F S64x256 .f32}
    (hT : ∀ c S, I c.val S → I (c.val + 1) (T c S).1 ∧ (T c S).2 = (sh c, sh' c)) (S : St F) (h0 : I 0 S) :
    I 28 (sweepAll₂F T S).1 ∧ (sweepAll₂F T S).2 = (sumT sh, sumT sh') := by
  have h1 := hT ⟨0, by omega⟩ S h0
  unfold sweepAll₂F sumT
  rw [h1.2]
  exact sweep₂F_inv hT 27 1 rfl _ _ _ h1.1

theorem sweep₀F_inv {T : Fin 28 → St F → St F × PUnit.{1}} {I : ℕ → St F → Prop}
    (hT : ∀ c S, I c.val S → I (c.val + 1) (T c S).1) :
    ∀ (n c : Nat) (h : c + n = 28) (S : St F), I c S → I 28 (sweep₀F T n c h S).1 := by
  intro n
  induction n with
  | zero => intro c h S hI; have : c = 28 := by omega
            subst this; exact hI
  | succ n ih =>
    intro c h S hI
    unfold sweep₀F
    exact ih (c + 1) (by omega) _ (hT ⟨c, by omega⟩ S hI)

/-! ## A point part way through its tiles -/

/-- What a point works with: the slots of its phases, the two products' left factors, whether their sums start. -/
structure Par (F : FTy → Type) where
  nA : Fin 11
  nP : Fin 11
  nY : Fin 11
  nZ : Fin 11
  fP : BitVec 1
  fZ : BitVec 1
  aP : FVec F S64x256 .bf16
  aZ : FVec F S64x256 .bf16

/-- The residual of tile `k` of the point's blocks. -/
abbrev eOf (S : St F) (k : Fin 28) : FVec F S256x256 .bf16 := eBlk S.a1 S.a2 S.a3 S.a10 k
/-- What phase P makes of tile `k`. -/
abbrev pNew (π : Par F) (S : St F) (k : Fin 28) : FVec F S64x256 .f32 := accOf π.fP (tP S.a11 k) (dotTOf π.aP (tE S.a9 π.nP k))
/-- What phase Z makes of tile `k`. -/
abbrev zNew (π : Par F) (S : St F) (k : Fin 28) : FVec F S64x256 .f32 := accOf π.fZ (tO S.a7 k) (dotTOf π.aZ (tE S.a9 π.nZ k))
/-- Tile `k`'s share of `y0`. -/
abbrev shA (S : St F) (k : Fin 28) : FVec F S64x256 .f32 := dotOf (tO S.a5 k) (eOf S k)
/-- Tile `k`'s share of `y`. -/
abbrev shY (π : Par F) (S : St F) (k : Fin 28) : FVec F S64x256 .f32 := dotOf (tP S.a12 k) (tE S.a9 π.nY k)

/-- From `S₀`, the first `cA` tiles have been through phase A, `cP` through P and `cZ` through Z. -/
structure Mid (π : Par F) (S₀ S : St F) (cA cP cZ : ℕ) : Prop where
  same : S = {S₀ with a7 := S.a7, a9 := S.a9, a11 := S.a11}
  e : ∀ n k, tE S.a9 n k = if n = π.nA ∧ k.val < cA then eOf S₀ k else tE S₀.a9 n k
  p : ∀ k, tP S.a11 k = if k.val < cP then pNew π S₀ k else tP S₀.a11 k
  z : ∀ k, tO S.a7 k = if k.val < cZ then zNew π S₀ k else tO S₀.a7 k
  z' : cZ = 0 → S.a7 = S₀.a7

theorem mid_zero (π : Par F) (S : St F) : Mid π S S 0 0 0 := ⟨rfl, by simp, by simp, by simp, fun _ => rfl⟩

theorem lt_succ_split (k c : Fin 28) : k.val < c.val + 1 ↔ k = c ∨ k.val < c.val := by
  rw [Fin.ext_iff]; omega

variable {π : Par F} {S₀ S : St F} {cA cP cZ : ℕ}

theorem mid_eOf (h : Mid π S₀ S cA cP cZ) (k : Fin 28) : eOf S k = eOf S₀ k := by
  have e1 := congrArg St.a1 h.same; have e2 := congrArg St.a2 h.same; have e3 := congrArg St.a3 h.same; have e4 := congrArg St.a10 h.same
  simp only at e1 e2 e3 e4
  unfold eOf; rw [e1, e2, e3, e4]

theorem mid_A (s : BitVec 32) (hs : SlotOk s) (hπ : π.nA = sl s hs) (c : Fin 28) (h : Mid π S₀ S c.val cP cZ) :
    Mid π S₀ (phAF s hs c S).1 (c.val + 1) cP cZ ∧ (phAF s hs c S).2 = shA S₀ c := by
  refine ⟨⟨?_, ?_, h.p, h.z, h.z'⟩, ?_⟩
  · have := h.same
    unfold phAF
    exact congrArg (fun T : St F => {T with a9 := put S.a9 (offE s c) S1x256x256.size (shapeCast S1x256x256 (eBlk S.a1 S.a2 S.a3 S.a10 c) shapeCasts_S256x256_S1x256x256)}) this
  · intro n k
    show tE (put S.a9 (offE s c) S1x256x256.size (shapeCast S1x256x256 (eOf S c) shapeCasts_S256x256_S1x256x256)) n k = _
    rw [tE_put (hs := hs), mid_eOf h, h.e, hπ]
    simp only [lt_succ_split]
    by_cases hn : n = sl s hs
    · by_cases hk : k = c
      · subst hk; simp [hn]
      · simp [hn, hk]
    · simp [hn]
  · show dotOf (tO S.a5 c) (eOf S c) = _
    have e5 := congrArg St.a5 h.same
    simp only at e5
    rw [mid_eOf h, e5]

theorem mid_P (s : BitVec 32) (hs : SlotOk s) (hπ : π.nP = sl s hs) (hne : π.nP ≠ π.nA) (c : Fin 28) (h : Mid π S₀ S cA c.val cZ) :
    Mid π S₀ (phPF s hs π.fP π.aP c S).1 cA (c.val + 1) cZ := by
  refine ⟨?_, h.e, ?_, h.z, h.z'⟩
  · have := h.same
    unfold phPF
    exact congrArg (fun T : St F => {T with a11 := put S.a11 ![0, 256 * c.val] S64x256.size (shapeCast S64x256 (accOf π.fP (tP S.a11 c) (dotTOf π.aP (tE S.a9 (sl s hs) c))) shapeCasts_S64x256_S64x256)}) this
  · intro k
    show tP (put S.a11 ![0, 256 * c.val] S64x256.size (shapeCast S64x256 (accOf π.fP (tP S.a11 c) (dotTOf π.aP (tE S.a9 (sl s hs) c))) shapeCasts_S64x256_S64x256)) k = _
    rw [tP_put (F := F) (e := .f32), h.p, h.p, h.e, ← hπ]
    simp only [lt_succ_split]
    by_cases hk : k = c
    · subst hk; simp [hne]
    · simp [hk]

theorem mid_Y (s : BitVec 32) (hs : SlotOk s) (hπ : π.nY = sl s hs) (hne : π.nY ≠ π.nA ∨ cA = 0) (c : Fin 28) (h : Mid π S₀ S cA cP cZ) :
    (phYF s hs c S).2 = shY π S₀ c := by
  show dotOf (tP S.a12 c) (tE S.a9 (sl s hs) c) = _
  have e := congrArg St.a12 h.same
  simp only at e
  rw [h.e, ← hπ, e]
  rcases hne with hne | rfl
  · simp [hne]
  · simp

theorem mid_Z (s : BitVec 32) (hs : SlotOk s) (hπ : π.nZ = sl s hs) (hne : π.nZ ≠ π.nA ∨ cA = 0) (c : Fin 28) (h : Mid π S₀ S cA cP c.val) :
    Mid π S₀ (phZF s hs π.fZ π.aZ c S).1 cA cP (c.val + 1) := by
  refine ⟨?_, h.e, h.p, ?_, fun x => by omega⟩
  · have := h.same
    unfold phZF
    exact congrArg (fun T : St F => {T with a7 := put S.a7 ![0, 0, 256 * c.val] S1x64x256.size (shapeCast S1x64x256 (accOf π.fZ (tO S.a7 c) (dotTOf π.aZ (tE S.a9 (sl s hs) c))) shapeCasts_S64x256_S1x64x256)}) this
  · intro k
    show tO (put S.a7 ![0, 0, 256 * c.val] S1x64x256.size (shapeCast S1x64x256 (accOf π.fZ (tO S.a7 c) (dotTOf π.aZ (tE S.a9 (sl s hs) c))) shapeCasts_S64x256_S1x64x256)) k = _
    rw [tO_put (F := F) (e := .f32), h.z, h.z, h.e, ← hπ]
    simp only [lt_succ_split]
    have hA : ¬ (π.nZ = π.nA ∧ c.val < cA) := by
      rcases hne with hne | rfl
      · exact fun x => hne x.1
      · exact fun x => absurd x.2 (Nat.not_lt_zero _)
    by_cases hk : k = c
    · subst hk; simp [hA]
    · simp [hk]

/-! ## A point done -/

/-- What a point leaves of the buffers `S₀`, its phases A, P, Y, Z run where `fA`, `fP`, `fY`, `fZ`. -/
structure Res (fA fP fY fZ : Bool) (π : Par F) (S₀ S : St F) : Prop where
  same : S.a1 = S₀.a1 ∧ S.a2 = S₀.a2 ∧ S.a3 = S₀.a3 ∧ S.a4 = S₀.a4 ∧ S.a5 = S₀.a5 ∧ S.a12 = S₀.a12
  e : ∀ n k, tE S.a9 n k = if n = π.nA ∧ fA = true then eOf {S₀ with a10 := zfOf S₀.a4} k else tE S₀.a9 n k
  p : ∀ k, tP S.a11 k = if fP = true then pNew π S₀ k else tP S₀.a11 k
  z : ∀ k, tO S.a7 k = if fZ = true then zNew π S₀ k else tO S₀.a7 k
  z' : fZ = false → S.a7 = S₀.a7
  y0 : S.a8 = if fA = true then shapeCast S1x64x256 (sumT (shA {S₀ with a10 := zfOf S₀.a4})) shapeCasts_S64x256_S1x64x256 else S₀.a8
  y0b : S.a13 = if fA = true then truncf .bf16 (sumT (shA {S₀ with a10 := zfOf S₀.a4})) bitsLt_bf16_f32 else S₀.a13
  y : S.a6 = if fY = true then shapeCast S1x64x256 (sumT (shY π S₀)) shapeCasts_S64x256_S1x64x256 else S₀.a6
  yb : S.a14 = if fY = true then truncf .bf16 (sumT (shY π S₀)) bitsLt_bf16_f32 else S₀.a14

theorem preAF_eq (S : St F) : (preAF S).1 = {S with a10 := zfOf S.a4} := by
  show ({S with a10 := _} : St F) = _
  rw [shapeCast_self, put_full _ _ _ (by intro a; match a with | 0 => rfl | 1 => rfl), window_full]

theorem post8F_eq (y : FVec F S64x256 .f32) (S : St F) : (post8F y S).1
    = {S with a8 := shapeCast S1x64x256 y shapeCasts_S64x256_S1x64x256, a13 := truncf .bf16 y bitsLt_bf16_f32} := by
  show ({S with a8 := _, a13 := _} : St F) = _
  rw [shapeCast_self, put_full _ _ _ (by intro a; match a with | 0 => rfl | 1 => rfl | 2 => rfl), put_full _ _ _ (by intro a; match a with | 0 => rfl | 1 => rfl)]

theorem post6F_eq (y : FVec F S64x256 .f32) (S : St F) : (post6F y S).1
    = {S with a6 := shapeCast S1x64x256 y shapeCasts_S64x256_S1x64x256, a14 := truncf .bf16 y bitsLt_bf16_f32} := by
  show ({S with a6 := _, a14 := _} : St F) = _
  rw [shapeCast_self, put_full _ _ _ (by intro a; match a with | 0 => rfl | 1 => rfl | 2 => rfl), put_full _ _ _ (by intro a; match a with | 0 => rfl | 1 => rfl)]

theorem phBF_eq (S : St F) : (phBF S).1 = {S with a12 := truncf .bf16 S.a11 bitsLt_bf16_f32} := by
  show ({S with a12 := _} : St F) = _
  rw [shapeCast_self (s := S64x7168), put_full _ _ _ (by intro a; match a with | 0 => rfl | 1 => rfl), window_full]

theorem rd13F_eq (S : St F) : (rd13F S).2 = S.a13 := window_full (s := S64x256) _ _ _
theorem rd14F_eq (S : St F) : (rd14F S).2 = S.a14 := window_full (s := S64x256) _ _ _

theorem Mid.eq1 (h : Mid π S₀ S cA cP cZ) :
    S.a1 = S₀.a1 ∧ S.a2 = S₀.a2 ∧ S.a3 = S₀.a3 ∧ S.a4 = S₀.a4 ∧ S.a5 = S₀.a5 ∧ S.a6 = S₀.a6 ∧ S.a8 = S₀.a8 ∧ S.a12 = S₀.a12 ∧ S.a13 = S₀.a13 ∧ S.a14 = S₀.a14 :=
  ⟨by rw [h.same], by rw [h.same], by rw [h.same], by rw [h.same], by rw [h.same], by rw [h.same], by rw [h.same], by rw [h.same], by rw [h.same], by rw [h.same]⟩

/-- A part of a point whose tiles are through, its sums stored, is the point done. -/
theorem res_of {fA fP fY fZ : Bool} {S S₂ S' : St F} {yA yY : FVec F S64x256 .f32}
    (h : Mid π (if fA = true then {S with a10 := zfOf S.a4} else S) S₂ (if fA = true then 28 else 0) (if fP = true then 28 else 0) (if fZ = true then 28 else 0))
    (hA : fA = true → yA = sumT (shA {S with a10 := zfOf S.a4})) (hY : fY = true → yY = sumT (shY π S))
    (h8 : S' = (let T := if fA = true then (post8F yA S₂).1 else S₂; if fY = true then (post6F yY T).1 else T)) :
    Res fA fP fY fZ π S S' := by
  have h1 := h.eq1
  have he := h.e
  have hp := h.p
  have hz := h.z
  have hz' := h.z'
  rw [h8]
  cases fA <;> cases fY <;> cases fP <;> cases fZ <;>
    simp only [post8F_eq, post6F_eq, if_true, if_false, Bool.false_eq_true, Fin.is_lt, Nat.not_lt_zero, and_true, and_false, forall_true_left] at h1 he hp hz hz' hA hY ⊢ <;>
    constructor <;> simp_all

variable (i : grid0.Coords)

theorem res_br1 (hA : SlotOk (slA i)) (S : St F) (πA : π.nA = sl (slA i) hA) : Res true false false false π S (br1F i hA S).1 := by
  have hs := sweepAllF_inv (I := fun c T => Mid π {S with a10 := zfOf S.a4} T c 0 0) (fun c T h => mid_A (slA i) hA πA c h) (preAF S).1
    (by rw [preAF_eq]; exact mid_zero π _)
  exact res_of (fA := true) (fP := false) (fY := false) (fZ := false) (yY := sumT (shY π S)) hs.1 (fun _ => hs.2) (fun _ => rfl) rfl

theorem res_br2 (hA : SlotOk (slA i)) (hP : SlotOk (slP i)) (S : St F) (πA : π.nA = sl (slA i) hA) (πP : π.nP = sl (slP i) hP)
    (hf : π.fP = fsP i) (ha : π.aP = S.a13) (hne : π.nP ≠ π.nA) : Res true true false false π S (br2F i hA hP S).1 := by
  have hs := sweepAllF_inv (T := fun c S' => ((phPF (slP i) hP (fsP i) (rd13F (preAF S).1).2 c (phAF (slA i) hA c S').1).1, (phAF (slA i) hA c S').2))
    (I := fun c T => Mid π {S with a10 := zfOf S.a4} T c c 0) (sh := shA {S with a10 := zfOf S.a4})
    (fun c T h => by
      have h1 := mid_A (slA i) hA πA c h
      have h2 := mid_P (slP i) hP πP hne c h1.1
      rw [hf, ha] at h2
      rw [rd13F_eq, preAF_eq]
      exact ⟨h2, h1.2⟩) (preAF S).1
    (by rw [preAF_eq]; exact mid_zero π _)
  exact res_of (fA := true) (fP := true) (fY := false) (fZ := false) (yY := sumT (shY π S)) hs.1 (fun _ => hs.2) (fun _ => rfl) rfl

theorem res_br3 (hA : SlotOk (slA i)) (hP : SlotOk (slP i)) (hY : SlotOk (slY i)) (hZ : SlotOk (slZ i)) (S : St F)
    (πA : π.nA = sl (slA i) hA) (πP : π.nP = sl (slP i) hP) (πY : π.nY = sl (slY i) hY) (πZ : π.nZ = sl (slZ i) hZ)
    (hf : π.fP = fsP i) (ha : π.aP = S.a13) (hf' : π.fZ = fsZ i) (ha' : π.aZ = S.a14)
    (hne : π.nP ≠ π.nA) (hneY : π.nY ≠ π.nA) (hneZ : π.nZ ≠ π.nA) : Res true true true true π S (br3F i hA hP hY hZ S).1 := by
  have hs := sweepAll₂F_inv (T := fun c S' =>
      ((phZF (slZ i) hZ (fsZ i) (rd14F (preAF S).1).2 c (phPF (slP i) hP (fsP i) (rd13F (preAF S).1).2 c (phAF (slA i) hA c S').1).1).1,
        ((phAF (slA i) hA c S').2, (phYF (slY i) hY c (phPF (slP i) hP (fsP i) (rd13F (preAF S).1).2 c (phAF (slA i) hA c S').1).1).2)))
    (I := fun c T => Mid π {S with a10 := zfOf S.a4} T c c c) (sh := shA {S with a10 := zfOf S.a4}) (sh' := shY π S)
    (fun c T h => by
      have h1 := mid_A (slA i) hA πA c h
      have h2 := mid_P (slP i) hP πP hne c h1.1
      have h3 := mid_Y (slY i) hY πY (.inl hneY) c h2
      have h4 := mid_Z (slZ i) hZ πZ (.inl hneZ) c h2
      rw [hf, ha] at h2 h3 h4
      rw [hf', ha'] at h4
      rw [rd13F_eq, rd14F_eq, preAF_eq]
      exact ⟨h4, Prod.ext h1.2 h3⟩) (preAF S).1
    (by rw [preAF_eq]; exact mid_zero π _)
  exact res_of (fA := true) (fP := true) (fY := true) (fZ := true) hs.1 (fun _ => congrArg Prod.fst hs.2) (fun _ => congrArg Prod.snd hs.2) rfl

theorem res_br4 (hP : SlotOk (slP i)) (hZ : SlotOk (slZ i)) (S : St F)
    (πP : π.nP = sl (slP i) hP) (πZ : π.nZ = sl (slZ i) hZ)
    (hf : π.fP = fsP i) (ha : π.aP = S.a13) (hf' : π.fZ = fsZ i) (ha' : π.aZ = S.a14)
    (hne : π.nP ≠ π.nA) (hneZ : π.nZ ≠ π.nA) : Res false true false true π S (br4F i hP hZ S).1 := by
  have hs := sweep₀F_inv (T := fun c S' => phZF (slZ i) hZ (fsZ i) (rd14F S).2 c (phPF (slP i) hP (fsP i) (rd13F S).2 c S').1)
    (I := fun c T => Mid π S T 0 c c)
    (fun c T h => by
      have h2 := mid_P (slP i) hP πP hne c h
      have h4 := mid_Z (slZ i) hZ πZ (.inl hneZ) c h2
      rw [hf, ha, hf', ha'] at h4
      rw [rd13F_eq, rd14F_eq]
      exact h4) 28 0 rfl S (mid_zero π _)
  exact res_of (fA := false) (fP := true) (fY := false) (fZ := true) (yA := sumT (shY π S)) (yY := sumT (shY π S)) hs (fun x => by simp at x) (fun _ => rfl) rfl

theorem res_br5 (hY : SlotOk (slY i)) (S : St F) (πY : π.nY = sl (slY i) hY) (hneY : π.nY ≠ π.nA) : Res false false true false π S (br5F i hY S).1 := by
  have hs := sweepAllF_inv (T := phYF (slY i) hY) (I := fun c T => Mid π S T 0 0 0) (sh := shY π S)
    (fun c T h => ⟨h, mid_Y (slY i) hY πY (.inl hneY) c h⟩) S (mid_zero π _)
  exact res_of (fA := false) (fP := false) (fY := true) (fZ := false) (yA := sumT (shY π S)) hs.1 (fun x => by simp at x) (fun _ => hs.2) rfl

theorem res_br6 (hY : SlotOk (slY i)) (hZ : SlotOk (slZ i)) (S : St F)
    (πY : π.nY = sl (slY i) hY) (πZ : π.nZ = sl (slZ i) hZ) (hf' : π.fZ = fsZ i) (ha' : π.aZ = S.a14)
    (hneY : π.nY ≠ π.nA) (hneZ : π.nZ ≠ π.nA) : Res false false true true π S (br6F i hY hZ S).1 := by
  have hs := sweepAllF_inv (T := fun c S' => ((phZF (slZ i) hZ (fsZ i) (rd14F S).2 c S').1, (phYF (slY i) hY c S').2))
    (I := fun c T => Mid π S T 0 0 c) (sh := shY π S)
    (fun c T h => by
      have h3 := mid_Y (slY i) hY πY (.inl hneY) c h
      have h4 := mid_Z (slZ i) hZ πZ (.inl hneZ) c h
      rw [hf', ha'] at h4
      rw [rd14F_eq]
      exact ⟨h4, h3⟩) S (mid_zero π _)
  exact res_of (fA := false) (fP := false) (fY := true) (fZ := true) (yA := sumT (shY π S)) hs.1 (fun x => by simp at x) (fun _ => hs.2) rfl

theorem res_br7 (hZ : SlotOk (slZ i)) (S : St F)
    (πZ : π.nZ = sl (slZ i) hZ) (hf' : π.fZ = fsZ i) (ha' : π.aZ = S.a14)
    (hneZ : π.nZ ≠ π.nA) : Res false false false true π S (br7F i hZ S).1 := by
  have hs := sweep₀F_inv (T := phZF (slZ i) hZ (fsZ i) (rd14F S).2) (I := fun c T => Mid π S T 0 0 c)
    (fun c T h => by
      have h4 := mid_Z (slZ i) hZ πZ (.inl hneZ) c h
      rw [hf', ha'] at h4
      rw [rd14F_eq]
      exact h4) 28 0 rfl S (mid_zero π _)
  exact res_of (fA := false) (fP := false) (fY := false) (fZ := true) (yA := sumT (shY π S)) (yY := sumT (shY π S)) hs (fun x => by simp at x) (fun _ => rfl) rfl

/-- Phase Y by itself after a point without it. -/
theorem res_then_Y {fA fP fZ : Bool} {S S₁ S₂ : St F} (h₁ : Res fA fP false fZ π S S₁) (h₂ : Res false false true false π S₁ S₂) (hneY : π.nY ≠ π.nA) :
    Res fA fP true fZ π S S₂ := by
  have hY : shY π S₁ = shY π S := by
    funext k
    unfold shY
    rw [h₁.e, h₁.same.2.2.2.2.2]
    simp [hneY]
  constructor
  · have a := h₁.same; have b := h₂.same
    exact ⟨b.1.trans a.1, b.2.1.trans a.2.1, b.2.2.1.trans a.2.2.1, b.2.2.2.1.trans a.2.2.2.1, b.2.2.2.2.1.trans a.2.2.2.2.1, b.2.2.2.2.2.trans a.2.2.2.2.2⟩
  · intro n k; rw [h₂.e]; simpa using h₁.e n k
  · intro k; rw [h₂.p]; simpa using h₁.p k
  · intro k; rw [h₂.z]; simpa using h₁.z k
  · intro x; exact (h₂.z' rfl).trans (h₁.z' x)
  · exact h₂.y0.trans h₁.y0
  · exact h₂.y0b.trans h₁.y0b
  · rw [h₂.y, hY]; rfl
  · rw [h₂.yb, hY]; rfl

/-- No phase at all. -/
theorem res_none (S : St F) : Res false false false false π S S :=
  ⟨⟨rfl, rfl, rfl, rfl, rfl, rfl⟩, by simp, by simp, by simp, fun _ => rfl, rfl, rfl, rfl, rfl⟩

end Cert.KernelIdeal.Tiles

end
-- ==== Proof.Values.lean ====
/- What the kernel computes, matrix by matrix, and the invariant of its grid: which buffers hold what before a point. -/
module

public import proofs.«01_k».proof.Proof.Pure

@[expose] public section

set_option maxRecDepth 16384

noncomputable section

namespace Cert.KernelIdeal.Tiles

open Idealize.ShloMosaic Idealize.SL.Sem
open Cert.KernelIdeal
open Facts₀ Facts

variable {F : FTy → Type} [FloatOps F]

/-- The blocks of the five inputs, by the number of the matrix's tile row (64 in all). -/
structure In (F : FTy → Type) where
  w : ℕ → Vec F S1x256x7168 .bf16
  cd : ℕ → Vec F S1x256x3584 .i8
  sc : ℕ → Vec F S1x56x256 .f32
  zp : ℕ → Vec F S1x56x256 .i8
  om : ℕ → Vec F S1x64x7168 .bf16

/-- `1` where a batch's sum starts. -/
def flag (n : ℕ) : BitVec 1 := if n % 8 = 0 then 1#1 else 0#1

variable (B : In F)

/-- Tile `k` of tile row `n`'s residual. -/
def vE (n : ℕ) (k : Fin 28) : FVec F S256x256 .bf16 := eBlk (B.w n) (B.cd n) (B.sc n) (zfOf (B.zp n)) k
/-- Tile row `n` of `y0`. -/
def vY0 (n : ℕ) : FVec F S64x256 .f32 := sumT fun k => dotOf (tO (B.om n) k) (vE B n k)
/-- Tile `k` of `p`, its batch's tile rows up to `n` added up. -/
def vP : ℕ → Fin 28 → FVec F S64x256 .f32
  | 0, k => accOf (flag 0) (dotTOf (truncf .bf16 (vY0 B 0) bitsLt_bf16_f32) (vE B 0 k)) (dotTOf (truncf .bf16 (vY0 B 0) bitsLt_bf16_f32) (vE B 0 k))
  | n + 1, k => accOf (flag (n + 1)) (vP n k) (dotTOf (truncf .bf16 (vY0 B (n + 1)) bitsLt_bf16_f32) (vE B (n + 1) k))
/-- Tile row `n` of `y`. -/
def vY (n : ℕ) : FVec F S64x256 .f32 := sumT fun k => dotOf (truncf .bf16 (vP B (8 * (n / 8) + 7) k) bitsLt_bf16_f32) (vE B n k)
/-- Tile `k` of `z`, its batch's tile rows up to `n` added up. -/
def vZ : ℕ → Fin 28 → FVec F S64x256 .f32
  | 0, k => accOf (flag 0) (dotTOf (truncf .bf16 (vY B 0) bitsLt_bf16_f32) (vE B 0 k)) (dotTOf (truncf .bf16 (vY B 0) bitsLt_bf16_f32) (vE B 0 k))
  | n + 1, k => accOf (flag (n + 1)) (vZ n k) (dotTOf (truncf .bf16 (vY B (n + 1)) bitsLt_bf16_f32) (vE B (n + 1) k))

theorem accOf_start (x x' d : FVec F S64x256 .f32) {n : ℕ} (h : n % 8 = 0) : accOf (flag n) x d = accOf (flag n) x' d := by
  unfold flag; rw [if_pos h]; rfl

/-- Before point `t`. -/
structure Inv (t : ℕ) (S : St F) : Prop where
  e : ∀ n, n < 64 → n < t → t ≤ n + 11 → ∀ k, tE S.a9 ⟨n % 11, Nat.mod_lt _ (by omega)⟩ k = vE B n k
  y0b : 1 ≤ t → t ≤ 64 → S.a13 = truncf .bf16 (vY0 B (t - 1)) bitsLt_bf16_f32
  p : 2 ≤ t → t ≤ 65 → ∀ k, tP S.a11 k = vP B (t - 2) k
  pk : 66 ≤ t → ∀ k, tP S.a11 k = vP B 63 k
  pb : 9 ≤ t → t ≤ 72 → ∀ k, tP S.a12 k = truncf .bf16 (vP B (8 * ((t - 9) / 8) + 7) k) bitsLt_bf16_f32
  yb : 10 ≤ t → t ≤ 73 → S.a14 = truncf .bf16 (vY B (t - 10)) bitsLt_bf16_f32

/-! ## The grid's arithmetic -/

/-- The point's slots, flags and left factors. -/
def parOf (t : ℕ) (S : St F) : Par F where
  nA := ⟨t % 11, Nat.mod_lt _ (by omega)⟩
  nP := ⟨(t + 10) % 11, Nat.mod_lt _ (by omega)⟩
  nY := ⟨(t + 2) % 11, Nat.mod_lt _ (by omega)⟩
  nZ := ⟨(t + 1) % 11, Nat.mod_lt _ (by omega)⟩
  fP := flag (t + 7)
  fZ := flag (t + 6)
  aP := S.a13
  aZ := S.a14

abbrev ix (t : Fin 74) : grid0.Coords := grid0.coords (t.cast (by decide))

theorem cond1_iff : ∀ t : Fin 74, k0_cond1 (ix t) = 1#1 ↔ t.val = 0 := by decide +kernel
theorem cond2_iff : ∀ t : Fin 74, k0_cond2 (ix t) = 1#1 ↔ 1 ≤ t.val ∧ t.val ≤ 9 := by decide +kernel
theorem cond3_iff : ∀ t : Fin 74, k0_cond3 (ix t) = 1#1 ↔ 10 ≤ t.val ∧ t.val ≤ 63 := by decide +kernel
theorem cond4_iff : ∀ t : Fin 74, k0_cond4 (ix t) = 1#1 ↔ t.val = 64 := by decide +kernel
theorem cond5_iff : ∀ t : Fin 74, k0_cond5 (ix t) = 1#1 ↔ t.val = 9 ∨ t.val = 64 := by decide +kernel
theorem cond6_iff : ∀ t : Fin 74, k0_cond6 (ix t) = 1#1 ↔ 65 ≤ t.val ∧ t.val ≤ 72 := by decide +kernel
theorem cond7_iff : ∀ t : Fin 74, k0_cond7 (ix t) = 1#1 ↔ t.val = 73 := by decide +kernel
theorem condB_iff : ∀ t : Fin 74, condB (ix t) ↔ 8 ≤ t.val ∧ t.val % 8 = 0 := by decide +kernel
theorem slA_eq : ∀ t : Fin 74, (Scalar.indexCast (slA (ix t)) : Index).toNat = t.val % 11 := by decide +kernel
theorem slP_eq : ∀ t : Fin 74, 1 ≤ t.val → (Scalar.indexCast (slP (ix t)) : Index).toNat = (t.val + 10) % 11 := by decide +kernel
theorem slY_eq : ∀ t : Fin 74, 9 ≤ t.val → (Scalar.indexCast (slY (ix t)) : Index).toNat = (t.val + 2) % 11 := by decide +kernel
theorem slZ_eq : ∀ t : Fin 74, 10 ≤ t.val → (Scalar.indexCast (slZ (ix t)) : Index).toNat = (t.val + 1) % 11 := by decide +kernel
theorem fsP_eq : ∀ t : Fin 74, 1 ≤ t.val → flag (t.val + 7) = fsP (ix t) := by decide +kernel
theorem fsZ_eq : ∀ t : Fin 74, 10 ≤ t.val → flag (t.val + 6) = fsZ (ix t) := by decide +kernel

theorem par_nePA (t : ℕ) (S : St F) : (parOf t S).nP ≠ (parOf t S).nA := fun h => by
  have := congrArg Fin.val h; simp only [parOf] at this; omega
theorem par_neYA (t : ℕ) (S : St F) : (parOf t S).nY ≠ (parOf t S).nA := fun h => by
  have := congrArg Fin.val h; simp only [parOf] at this; omega
theorem par_neZA (t : ℕ) (S : St F) : (parOf t S).nZ ≠ (parOf t S).nA := fun h => by
  have := congrArg Fin.val h; simp only [parOf] at this; omega

/-- What point `t`'s phases leave. -/
theorem res_head (t : Fin 74) (S : St F) :
    Res (decide (t.val < 64)) (decide (1 ≤ t.val ∧ t.val ≤ 64)) (decide (9 ≤ t.val ∧ t.val ≤ 72)) (decide (10 ≤ t.val)) (parOf t.val S) S (headF (ix t) S) := by
  have c1 := cond1_iff t; have c2 := cond2_iff t; have c3 := cond3_iff t; have c4 := cond4_iff t
  have c5 := cond5_iff t; have c6 := cond6_iff t; have c7 := cond7_iff t
  have πA : ∀ h, (parOf t.val S).nA = sl (slA (ix t)) h := fun h => Fin.ext (slA_eq t).symm
  have πP : 1 ≤ t.val → ∀ h, (parOf t.val S).nP = sl (slP (ix t)) h := fun g h => Fin.ext (slP_eq t g).symm
  have πY : 9 ≤ t.val → ∀ h, (parOf t.val S).nY = sl (slY (ix t)) h := fun g h => Fin.ext (slY_eq t g).symm
  have πZ : 10 ≤ t.val → ∀ h, (parOf t.val S).nZ = sl (slZ (ix t)) h := fun g h => Fin.ext (slZ_eq t g).symm
  have hP : 1 ≤ t.val → (parOf t.val S).fP = fsP (ix t) := fsP_eq t
  have hZ : 10 ≤ t.val → (parOf t.val S).fZ = fsZ (ix t) := fsZ_eq t
  have nPA := par_nePA t.val S; have nYA := par_neYA t.val S; have nZA := par_neZA t.val S
  have lt := t.isLt
  unfold headF head2F head3F head4F head5F head6F head7F
  rcases (by omega : t.val = 0 ∨ (1 ≤ t.val ∧ t.val ≤ 8) ∨ t.val = 9 ∨ (10 ≤ t.val ∧ t.val ≤ 63) ∨ t.val = 64 ∨ (65 ≤ t.val ∧ t.val ≤ 72) ∨ t.val = 73)
    with h | h | h | h | h | h | h
  · rw [decide_eq_true (by omega), decide_eq_false (by omega), decide_eq_false (by omega), decide_eq_false (by omega)]
    rw [dif_pos (c1.2 (by omega)), dif_neg (fun x => absurd (c2.1 x) (by omega)), dif_neg (fun x => absurd (c3.1 x) (by omega)), dif_neg (fun x => absurd (c4.1 x) (by omega)),
      dif_neg (fun x => absurd (c5.1 x) (by omega)), dif_neg (fun x => absurd (c6.1 x) (by omega)), dif_neg (fun x => absurd (c7.1 x) (by omega))]
    exact res_br1 _ _ _ (πA _)
  · rw [decide_eq_true (by omega), decide_eq_true (by omega), decide_eq_false (by omega), decide_eq_false (by omega)]
    rw [dif_neg (fun x => absurd (c1.1 x) (by omega)), dif_pos (c2.2 (by omega)), dif_neg (fun x => absurd (c3.1 x) (by omega)), dif_neg (fun x => absurd (c4.1 x) (by omega)),
      dif_neg (fun x => absurd (c5.1 x) (by omega)), dif_neg (fun x => absurd (c6.1 x) (by omega)), dif_neg (fun x => absurd (c7.1 x) (by omega))]
    exact res_br2 _ _ _ _ (πA _) (πP (by omega) _) (hP (by omega)) rfl nPA
  · rw [decide_eq_true (by omega), decide_eq_true (by omega), decide_eq_true (by omega), decide_eq_false (by omega)]
    rw [dif_neg (fun x => absurd (c1.1 x) (by omega)), dif_pos (c2.2 (by omega)), dif_neg (fun x => absurd (c3.1 x) (by omega)), dif_neg (fun x => absurd (c4.1 x) (by omega)),
      dif_pos (c5.2 (by omega)), dif_neg (fun x => absurd (c6.1 x) (by omega)), dif_neg (fun x => absurd (c7.1 x) (by omega))]
    exact res_then_Y (res_br2 _ _ _ _ (πA _) (πP (by omega) _) (hP (by omega)) rfl nPA) (res_br5 _ _ _ (πY (by omega) _) nYA) nYA
  · rw [decide_eq_true (by omega), decide_eq_true (by omega), decide_eq_true (by omega), decide_eq_true (by omega)]
    rw [dif_neg (fun x => absurd (c1.1 x) (by omega)), dif_neg (fun x => absurd (c2.1 x) (by omega)), dif_pos (c3.2 (by omega)), dif_neg (fun x => absurd (c4.1 x) (by omega)),
      dif_neg (fun x => absurd (c5.1 x) (by omega)), dif_neg (fun x => absurd (c6.1 x) (by omega)), dif_neg (fun x => absurd (c7.1 x) (by omega))]
    exact res_br3 _ _ _ _ _ _ (πA _) (πP (by omega) _) (πY (by omega) _) (πZ (by omega) _) (hP (by omega)) rfl (hZ (by omega)) rfl nPA nYA nZA
  · rw [decide_eq_false (by omega), decide_eq_true (by omega), decide_eq_true (by omega), decide_eq_true (by omega)]
    rw [dif_neg (fun x => absurd (c1.1 x) (by omega)), dif_neg (fun x => absurd (c2.1 x) (by omega)), dif_neg (fun x => absurd (c3.1 x) (by omega)), dif_pos (c4.2 (by omega)),
      dif_pos (c5.2 (by omega)), dif_neg (fun x => absurd (c6.1 x) (by omega)), dif_neg (fun x => absurd (c7.1 x) (by omega))]
    exact res_then_Y (res_br4 _ _ _ _ (πP (by omega) _) (πZ (by omega) _) (hP (by omega)) rfl (hZ (by omega)) rfl nPA nZA) (res_br5 _ _ _ (πY (by omega) _) nYA) nYA
  · rw [decide_eq_false (by omega), decide_eq_false (by omega), decide_eq_true (by omega), decide_eq_true (by omega)]
    rw [dif_neg (fun x => absurd (c1.1 x) (by omega)), dif_neg (fun x => absurd (c2.1 x) (by omega)), dif_neg (fun x => absurd (c3.1 x) (by omega)), dif_neg (fun x => absurd (c4.1 x) (by omega)),
      dif_neg (fun x => absurd (c5.1 x) (by omega)), dif_pos (c6.2 (by omega)), dif_neg (fun x => absurd (c7.1 x) (by omega))]
    exact res_br6 _ _ _ _ (πY (by omega) _) (πZ (by omega) _) (hZ (by omega)) rfl nYA nZA
  · rw [decide_eq_false (by omega), decide_eq_false (by omega), decide_eq_false (by omega), decide_eq_true (by omega)]
    rw [dif_neg (fun x => absurd (c1.1 x) (by omega)), dif_neg (fun x => absurd (c2.1 x) (by omega)), dif_neg (fun x => absurd (c3.1 x) (by omega)), dif_neg (fun x => absurd (c4.1 x) (by omega)),
      dif_neg (fun x => absurd (c5.1 x) (by omega)), dif_neg (fun x => absurd (c6.1 x) (by omega)), dif_pos (c7.2 (by omega))]
    exact res_br7 _ _ _ (πZ (by omega) _) (hZ (by omega)) rfl nZA

/-! ## One point on the invariant -/

/-- What point `t` meets in its windows' buffers: the input blocks while matrices still come in, and `z`'s tiles so far. -/
structure Pre (t : ℕ) (S : St F) : Prop where
  w : t < 64 → S.a1 = B.w t
  cd : t < 64 → S.a2 = B.cd t
  sc : t < 64 → S.a3 = B.sc t
  zp : t < 64 → S.a4 = B.zp t
  om : t < 64 → S.a5 = B.om t
  z : 10 < t → (t + 6) % 8 ≠ 0 → ∀ k, tO S.a7 k = vZ B (t - 11) k

/-- What point `t` leaves in its windows' buffers. -/
structure Post (t : ℕ) (S S' : St F) : Prop where
  same : S'.a1 = S.a1 ∧ S'.a2 = S.a2 ∧ S'.a3 = S.a3 ∧ S'.a4 = S.a4 ∧ S'.a5 = S.a5
  y0 : t < 64 → S'.a8 = shapeCast S1x64x256 (vY0 B t) shapeCasts_S64x256_S1x64x256
  y0' : 64 ≤ t → S'.a8 = S.a8
  y : 9 ≤ t → t ≤ 72 → S'.a6 = shapeCast S1x64x256 (vY B (t - 9)) shapeCasts_S64x256_S1x64x256
  y' : t < 9 ∨ 72 < t → S'.a6 = S.a6
  z : 10 ≤ t → ∀ k, tO S'.a7 k = vZ B (t - 10) k
  z' : t < 10 → S'.a7 = S.a7

variable {B}

theorem eOf_pre {t : ℕ} {S : St F} (h : Pre B t S) (ht : t < 64) (k : Fin 28) : eOf {S with a10 := zfOf S.a4} k = vE B t k := by
  show eBlk S.a1 S.a2 S.a3 (zfOf S.a4) k = _
  rw [h.w ht, h.cd ht, h.sc ht, h.zp ht]; rfl

theorem y0_pre {t : ℕ} {S : St F} (h : Pre B t S) (ht : t < 64) : sumT (shA {S with a10 := zfOf S.a4}) = vY0 B t := by
  unfold vY0
  refine congrArg sumT (funext fun k => ?_)
  show dotOf (tO S.a5 k) _ = _
  rw [eOf_pre h ht, h.om ht]

theorem vP_step {n : ℕ} {x : FVec F S64x256 .f32} {k : Fin 28} (h : n % 8 ≠ 0 → x = vP B (n - 1) k) :
    accOf (flag n) x (dotTOf (truncf .bf16 (vY0 B n) bitsLt_bf16_f32) (vE B n k)) = vP B n k := by
  by_cases h0 : n % 8 = 0
  · cases n with
    | zero => exact accOf_start _ _ _ h0
    | succ n => exact accOf_start _ _ _ h0
  · cases n with
    | zero => exact absurd rfl h0
    | succ n => rw [h h0]; rfl

theorem vZ_step {n : ℕ} {x : FVec F S64x256 .f32} {k : Fin 28} (h : n % 8 ≠ 0 → x = vZ B (n - 1) k) :
    accOf (flag n) x (dotTOf (truncf .bf16 (vY B n) bitsLt_bf16_f32) (vE B n k)) = vZ B n k := by
  by_cases h0 : n % 8 = 0
  · cases n with
    | zero => exact accOf_start _ _ _ h0
    | succ n => exact accOf_start _ _ _ h0
  · cases n with
    | zero => exact absurd rfl h0
    | succ n => rw [h h0]; rfl

theorem flag_congr {a b : ℕ} (h : a % 8 = b % 8) : flag a = flag b := by unfold flag; rw [h]

theorem inv_slot {t n : ℕ} {S : St F} (h : Inv B t S) (h1 : n < 64) (h2 : n < t) (h3 : t ≤ n + 11) (s : Fin 11) (hs : s.val = n % 11) (k : Fin 28) :
    tE S.a9 s k = vE B n k := by
  rw [← h.e n h1 h2 h3 k]; exact congrArg (fun s => tE S.a9 s k) (Fin.ext hs)

theorem pNew_inv {t : ℕ} {S : St F} (h : Inv B t S) (h1 : 1 ≤ t) (h2 : t ≤ 64) (k : Fin 28) : pNew (parOf t S) S k = vP B (t - 1) k := by
  show accOf (flag (t + 7)) (tP S.a11 k) (dotTOf S.a13 (tE S.a9 _ k)) = _
  rw [inv_slot (n := t - 1) h (by omega) (by omega) (by omega) _ (by show (t + 10) % 11 = _; omega) k, h.y0b h1 h2, flag_congr (show (t + 7) % 8 = (t - 1) % 8 by omega)]
  refine vP_step fun h0 => ?_
  rw [h.p (by omega) (by omega)]; congr 1

theorem shY_inv {t : ℕ} {S : St F} (h : Inv B t S) (h1 : 9 ≤ t) (h2 : t ≤ 72) : sumT (shY (parOf t S) S) = vY B (t - 9) := by
  unfold vY
  refine congrArg sumT (funext fun k => ?_)
  show dotOf (tP S.a12 k) (tE S.a9 _ k) = _
  rw [inv_slot (n := t - 9) h (by omega) (by omega) (by omega) _ (by show (t + 2) % 11 = _; omega) k, h.pb h1 (by omega)]

theorem zNew_inv {t : ℕ} {S : St F} (h : Inv B t S) (hp : Pre B t S) (h1 : 10 ≤ t) (h2 : t ≤ 73) (k : Fin 28) : zNew (parOf t S) S k = vZ B (t - 10) k := by
  show accOf (flag (t + 6)) (tO S.a7 k) (dotTOf S.a14 (tE S.a9 _ k)) = _
  rw [inv_slot (n := t - 10) h (by omega) (by omega) (by omega) _ (by show (t + 1) % 11 = _; omega) k, h.yb h1 h2, flag_congr (show (t + 6) % 8 = (t - 10) % 8 by omega)]
  refine vZ_step fun h0 => ?_
  rw [hp.z (by omega) (by omega)]; congr 1

theorem inv_head (t : Fin 74) {S S' : St F} (h : Inv B t.val S) (hp : Pre B t.val S)
    (hr : Res (decide (t.val < 64)) (decide (1 ≤ t.val ∧ t.val ≤ 64)) (decide (9 ≤ t.val ∧ t.val ≤ 72)) (decide (10 ≤ t.val)) (parOf t.val S) S S') :
    Post B t.val S S' ∧ (∀ n, n < 64 → n < t.val + 1 → t.val + 1 ≤ n + 11 → ∀ k, tE S'.a9 ⟨n % 11, Nat.mod_lt _ (by omega)⟩ k = vE B n k)
      ∧ (t.val < 64 → S'.a13 = truncf .bf16 (vY0 B t.val) bitsLt_bf16_f32)
      ∧ (1 ≤ t.val → t.val ≤ 64 → ∀ k, tP S'.a11 k = vP B (t.val - 1) k) ∧ (65 ≤ t.val → ∀ k, tP S'.a11 k = vP B 63 k)
      ∧ S'.a12 = S.a12
      ∧ (9 ≤ t.val → t.val ≤ 72 → S'.a14 = truncf .bf16 (vY B (t.val - 9)) bitsLt_bf16_f32) := by
  have lt := t.isLt
  obtain ⟨h1, h2, h3, h4, h5, h12⟩ := hr.same
  refine ⟨⟨⟨h1, h2, h3, h4, h5⟩, ?_, ?_, ?_, ?_, ?_, ?_⟩, ?_, ?_, ?_, ?_, h12, ?_⟩
  · intro a; rw [hr.y0, if_pos (decide_eq_true a), y0_pre hp a]
  · intro a; rw [hr.y0, if_neg (by simp; omega)]
  · intro a b; rw [hr.y, if_pos (decide_eq_true ⟨a, b⟩), shY_inv h a b]
  · intro a; rw [hr.y, if_neg (by simp; omega)]
  · intro a k; rw [hr.z, if_pos (decide_eq_true a), zNew_inv h hp a (by omega)]
  · intro a; exact hr.z' (decide_eq_false (by omega))
  · intro n a b c k
    rw [hr.e]
    by_cases e : n = t.val
    · subst e
      rw [if_pos ⟨rfl, decide_eq_true a⟩, eOf_pre hp a]
    · rw [if_neg (by
        intro x
        have := congrArg Fin.val x.1
        simp only [parOf] at this
        omega)]
      exact h.e n a (by omega) (by omega) k
  · intro a; rw [hr.y0b, if_pos (decide_eq_true a), y0_pre hp a]
  · intro a b k; rw [hr.p, if_pos (decide_eq_true ⟨a, b⟩), pNew_inv h a b]
  · intro a k; rw [hr.p, if_neg (by simp; omega)]
    by_cases e : t.val = 65
    · have := h.p (by omega) (by omega) k
      rw [this]; congr 1; omega
    · exact h.pk (by omega) k
  · intro a b; rw [hr.yb, if_pos (decide_eq_true ⟨a, b⟩), shY_inv h a b]

/-- ONE POINT: the invariant and the windows' buffers across it. -/
theorem inv_step (t : Fin 74) {S : St F} (h : Inv B t.val S) (hp : Pre B t.val S) :
    Inv B (t.val + 1) (bodyF (ix t) S) ∧ Post B t.val S (bodyF (ix t) S) := by
  have lt := t.isLt
  obtain ⟨hpost, he, h13, h11, h11', h12, h14⟩ := inv_head t h hp (res_head t S)
  have hpP : 2 ≤ t.val + 1 → t.val + 1 ≤ 65 → ∀ k, tP (headF (ix t) S).a11 k = vP B (t.val + 1 - 2) k := fun a b k => by
    rw [h11 (by omega) (by omega)]; congr 1
  unfold bodyF
  by_cases hb : condB (ix t)
  · rw [if_pos hb, phBF_eq]
    have hb' := (condB_iff t).1 hb
    refine ⟨⟨he, fun a b => h13 (by omega), hpP, fun a => h11' (by omega), ?_, fun a b => by rw [h14 (by omega) (by omega)]; congr 2⟩, ⟨hpost.same, hpost.y0, hpost.y0', hpost.y, hpost.y', hpost.z, hpost.z'⟩⟩
    intro a b k
    show truncf .bf16 (tP (headF (ix t) S).a11 k) bitsLt_bf16_f32 = _
    rw [h11 (by omega) (by omega), show 8 * ((t.val + 1 - 9) / 8) + 7 = t.val - 1 by omega]
  · rw [if_neg hb]
    have hb' : ¬ (8 ≤ t.val ∧ t.val % 8 = 0) := fun x => hb ((condB_iff t).2 x)
    refine ⟨⟨he, fun a b => h13 (by omega), hpP, fun a => h11' (by omega), ?_, fun a b => by rw [h14 (by omega) (by omega)]; congr 2⟩, hpost⟩
    intro a b k
    rw [h12, h.pb (by omega) (by omega), show (t.val + 1 - 9) / 8 = (t.val - 9) / 8 by omega]

/-- Before the first point nothing is asked. -/
theorem inv_zero (S : St F) : Inv B 0 S :=
  ⟨fun _ _ a => absurd a (by omega), fun a => absurd a (by omega), fun a => absurd a (by omega), fun a => absurd a (by omega), fun a => absurd a (by omega), fun a => absurd a (by omega)⟩

end Cert.KernelIdeal.Tiles

end
-- ==== Proof.Flight.lean ====
/- The pipeline's proof data — what every window's buffer holds after every point, what the scratch holds between
   points — and the body's obligation at every point. -/
module

public import proofs.«01_k».proof.Proof.Gen.KernelIdeal.Frame
public import proofs.«01_k».proof.Proof.Gen.KernelIdeal.Points
public import proofs.«01_k».proof.Proof.BodyEq
public import proofs.«01_k».proof.Proof.Values
public import Idealize.ShloMosaic.Lib.Pipeline.TableIdle

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)
open Cert.KernelIdeal

variable {F : FTy → Type} [FloatOps F]

local notation "𝕄" => MT nD τ sig Unit (Elt F) ℕ (UR sig nD τ) ℕ

/-! ## A 64-row block from its tiles -/

/-- The block whose tile `k` is `T k`. -/
def asm (T : Fin 28 → FVec F S64x256 .f32) : Vec F S1x64x7168 .f32 := fun y =>
  T ⟨(y 2).val / 256, by have h : (y 2).val < 7168 := (y 2).isLt; omega⟩
    (fun a => match a with
      | 0 => ⟨(y 1).val, (y 1).isLt⟩
      | 1 => ⟨(y 2).val % 256, Nat.mod_lt _ (by show 0 < 256; omega)⟩)

theorem tO_apply {e : EltTy} (X : Vec F S1x64x7168 e) (k : Fin 28) (j : S64x256.Idx) (y : S1x64x7168.Idx)
    (h1 : (y 1).val = (j 0).val) (h2 : (y 2).val = 256 * k.val + (j 1).val) : tO (F := F) X k j = X y := by
  unfold tO
  rw [shapeCast_dropUnit_apply (n := 2) ![64, 256] (window X ![0, 0, 256 * k.val] S1x64x256.size (inbO k)) _ j]
  refine congrArg X (funext fun a => Fin.ext ?_)
  have h0 : (y 0).val < 1 := (y 0).isLt
  match a with
  | 0 => show 0 + 1 * 0 = (y 0).val; omega
  | 1 => show 0 + 1 * (j 0).val = (y 1).val; omega
  | 2 => show 256 * k.val + 1 * (j 1).val = (y 2).val; omega

theorem eq_asm {X : Vec F S1x64x7168 .f32} {T : Fin 28 → FVec F S64x256 .f32} (h : ∀ k, tO X k = T k) : X = asm T := by
  funext y
  unfold asm
  rw [← h]
  exact (tO_apply (F := F) (e := .f32) X _ _ y rfl (by show (y 2).val = 256 * ((y 2).val / 256) + (y 2).val % 256; omega)).symm

theorem tO_asm (T : Fin 28 → FVec F S64x256 .f32) (k : Fin 28) : tO (asm T) k = T k := by
  funext j
  have hj0 : (j 0).val < 64 := (j 0).isLt
  have hj1 : (j 1).val < 256 := (j 1).isLt
  rw [tO_apply (F := F) (e := .f32) (asm T) k j (fun a => match a with
    | 0 => (⟨0, by show 0 < 1; omega⟩ : Fin 1)
    | 1 => (⟨(j 0).val, hj0⟩ : Fin 64)
    | 2 => (⟨256 * k.val + (j 1).val, by have := k.isLt; show _ < 7168; omega⟩ : Fin 7168)) rfl rfl]
  unfold asm
  have e1 : (256 * k.val + (j 1).val) / 256 = k.val := by omega
  have e2 : (256 * k.val + (j 1).val) % 256 = (j 1).val := by omega
  refine (congrArg (fun k' => T k' _) (Fin.ext e1)).trans (congrArg (T k) (funext fun a => Fin.ext ?_))
  match a with
  | 0 => rfl
  | 1 => exact e2

/-! ## The proof data -/

variable (m : (ℓ : Loc nD τ sig) → Buf (Elt F) ℓ)

/-- The point of tile row `n`. -/
abbrev pt (n : ℕ) : Fin cfg0.N := ⟨min n 73, by show _ < 74; omega⟩

/-- The input blocks, by tile row. -/
def inOf (c : Dev nD) : In F where
  w n := Gen.iblk m c 0 (pt n)
  cd n := Gen.iblk m c 1 (pt n)
  sc n := Gen.iblk m c 2 (pt n)
  zp n := Gen.iblk m c 3 (pt n)
  om n := Gen.iblk m c 4 (pt n)

theorem pt_val (t : Fin cfg0.N) : pt t.val = t := Fin.ext (by have : t.val < 74 := t.isLt; show min t.val 73 = t.val; omega)

/-- The window contents after point `t`: results `y`, `z`, `y0`. -/
abbrev aft5 (c : Dev nD) (t : ℕ) : Vec F S1x64x256 .f32 := shapeCast S1x64x256 (vY (inOf m c) (min (t - 9) 63)) Facts₀.shapeCasts_S64x256_S1x64x256
abbrev aft6 (c : Dev nD) (t : ℕ) : Vec F S1x64x7168 .f32 := asm (vZ (inOf m c) (t - 10))
abbrev aft7 (c : Dev nD) (t : ℕ) : Vec F S1x64x256 .f32 := shapeCast S1x64x256 (vY0 (inOf m c) (min t 63)) Facts₀.shapeCasts_S64x256_S1x64x256

abbrev sc0 : Memref sig .tc .vmem S11x7168x256 .bf16 := Memref.whole cc0_scratch0
abbrev sc1 : Memref sig .tc .vmem S56x256 .f32 := Memref.whole cc0_scratch1
abbrev sc2 : Memref sig .tc .vmem S64x7168 .f32 := Memref.whole cc0_scratch2
abbrev sc3 : Memref sig .tc .vmem S64x7168 .bf16 := Memref.whole cc0_scratch3
abbrev sc4 : Memref sig .tc .vmem S64x256 .bf16 := Memref.whole cc0_scratch4
abbrev sc5 : Memref sig .tc .vmem S64x256 .bf16 := Memref.whole cc0_scratch5

/-- The scratch at contents `S`. -/
def scr (c : Dev nD) (S : St F) : sProp 𝕄 :=
  iprop(owns (c : Thread nD τ) sc0 fullShare S.a9 ∗ owns (c : Thread nD τ) sc1 fullShare S.a10 ∗ owns (c : Thread nD τ) sc2 fullShare S.a11
    ∗ owns (c : Thread nD τ) sc3 fullShare S.a12 ∗ owns (c : Thread nD τ) sc4 fullShare S.a13 ∗ owns (c : Thread nD τ) sc5 fullShare S.a14)

/-- Between points: the scratch at contents the invariant allows; the generator's register. -/
def phi (c : Dev nD) (t : ℕ) : sProp 𝕄 :=
  iprop((∃ S : St F, ⌜Inv (inOf m c) t S⌝ ∗ scr c S) ∗ ∃ r, prngReg c r)

/-- The proof data. -/
def dat (c : Dev nD) : Dat τ (Elt F) Unit ℕ (UR sig nD τ) ℕ cfg0 c where
  A w := Gen.V m c (Pipeline.arrRef spec0 w)
  after := fun
    | 0 => fun t => Gen.iblk m c 0 t
    | 1 => fun t => Gen.iblk m c 1 t
    | 2 => fun t => Gen.iblk m c 2 t
    | 3 => fun t => Gen.iblk m c 3 t
    | 4 => fun t => Gen.iblk m c 4 t
    | 5 => fun t => aft5 m c t.val
    | 6 => fun t => aft6 m c t.val
    | 7 => fun t => aft7 m c t.val
    | ⟨_ + 8, h⟩ => absurd h (Nat.not_lt.2 (Nat.le_add_left _ _))
  Φ t := phi m c t.val
  q _ := fullShare
  owed _ := 0

/-! ## The schedule -/

theorem idle5_iff : ∀ t : Fin 74, cfg0.idle 5 (ix t) = true ↔ t.val < 9 ∨ t.val = 73 := by decide +kernel
theorem idle6_iff : ∀ t : Fin 74, cfg0.idle 6 (ix t) = true ↔ t.val < 10 := by decide +kernel
theorem idle7_iff : ∀ t : Fin 74, cfg0.idle 7 (ix t) = true ↔ 64 ≤ t.val := by decide +kernel
theorem flush5_iff : ∀ t : Fin 74, (cfg0.win 5).flush (t.cast (by decide)) = true ↔ (9 ≤ t.val ∧ t.val ≤ 71) ∨ t.val = 73 := by decide +kernel
theorem flush6_iff : ∀ t : Fin 74, (cfg0.win 6).flush (t.cast (by decide)) = true ↔ 10 ≤ t.val ∧ t.val % 8 = 1 := by decide +kernel
theorem flush7_iff : ∀ t : Fin 74, (cfg0.win 7).flush (t.cast (by decide)) = true ↔ t.val ≤ 62 ∨ t.val = 73 := by decide +kernel

theorem fresh5 (n : ℕ) (h : n ≤ cfg0.N) : cfg0.fresh 5 n = decide (n ≠ 73) :=
  Cfg.fresh_tab cfg0 5 (fun n => decide (n ≠ 73)) rfl (by decide +kernel) n h
theorem fresh6 (n : ℕ) (h : n ≤ cfg0.N) : cfg0.fresh 6 n = decide (n ≤ 10 ∨ n % 8 = 2) :=
  Cfg.fresh_tab cfg0 6 (fun n => decide (n ≤ 10 ∨ n % 8 = 2)) rfl (by decide +kernel) n h
theorem fresh7 (n : ℕ) (h : n ≤ cfg0.N) : cfg0.fresh 7 n = decide (n ≤ 63 ∨ n = 74) :=
  Cfg.fresh_tab cfg0 7 (fun n => decide (n ≤ 63 ∨ n = 74)) rfl (by decide +kernel) n h

variable {m}
variable {c : Dev nD}

theorem before5 (t : Fin cfg0.N) (d) (ht : t.val = 73) : (dat m c).before 5 t d = aft5 m c 72 := by
  rw [(dat m c).before_out_traj 5 rfl (fun _ _ => rfl) (fun t h0 hi hf => by
    have h : t.val < 74 := t.isLt
    rw [fresh5 t.val (le_of_lt h)] at hf
    have : t.val = 73 := by simpa using hf
    show aft5 m c t.val = aft5 m c (t.val - 1)
    unfold aft5; rw [show min (t.val - 9) 63 = min (t.val - 1 - 9) 63 by omega]) t.val t rfl d, fresh5 _ (le_of_lt t.isLt), if_neg (by simp [ht])]
  show aft5 m c (t.val - 1) = _
  rw [ht]

theorem before6 (t : Fin cfg0.N) (d) (h1 : 10 < t.val) (h2 : t.val % 8 ≠ 2) : (dat m c).before 6 t d = aft6 m c (t.val - 1) := by
  rw [(dat m c).before_out_traj 6 rfl (fun _ _ => rfl) (fun t h0 hi hf => by
    have h : t.val < 74 := t.isLt
    have := (idle6_iff ⟨t.val, h⟩).1 hi
    show aft6 m c t.val = aft6 m c (t.val - 1)
    unfold aft6; rw [show t.val - 10 = t.val - 1 - 10 by simp only at this; omega]) t.val t rfl d, fresh6 _ (le_of_lt t.isLt), if_neg (by simp; omega)]
  rfl

theorem before7 (t : Fin cfg0.N) (d) (ht : t.val = 73) : (dat m c).before 7 t d = aft7 m c 72 := by
  rw [(dat m c).before_out_traj 7 rfl (fun _ _ => rfl) (fun t h0 hi hf => by
    have h : t.val < 74 := t.isLt
    have := (idle7_iff ⟨t.val, h⟩).1 hi
    show aft7 m c t.val = aft7 m c (t.val - 1)
    unfold aft7; rw [show min t.val 63 = min (t.val - 1) 63 by
      rw [fresh7 t.val (le_of_lt h)] at hf
      have hf' : ¬ (t.val ≤ 63 ∨ t.val = 74) := by simpa using hf
      omega]) t.val t rfl d, fresh7 _ (le_of_lt t.isLt), if_neg (by simp [ht])]
  show aft7 m c (t.val - 1) = _
  rw [ht]

/-! ## The obligation -/

/-- A window's buffer, at contents the point may leave, is what the obligation asks. -/
theorem leaves_intro (w : Fin cfg0.W) (t : Fin cfg0.N) (X)
    (h1 : cfg0.idle w (cfg0.grid.coords t) = true → (cfg0.win w).flush t = false → ∃ d, X = (dat m c).before w t d)
    (h2 : cfg0.idle w (cfg0.grid.coords t) = false ∨ (cfg0.win w).flush t = true → X = (dat m c).after w t) :
    (owns (c : Thread nD τ) ((cfg0.win w).stage (cfg0.slots t w)) fullShare X : sProp 𝕄) ⊢ (dat m c).leavesExact w t := by
  unfold Dat.leavesExact
  cases hi : cfg0.idle w (cfg0.grid.coords t)
  · rw [h2 (.inl hi)]
  · cases hf : (cfg0.win w).flush t
    · obtain ⟨d, rfl⟩ := h1 hi hf
      iintro H
      iexists d
      iexact H
    · rw [h2 (.inr hf)]

/-- The body's buffers at point `t`. -/
abbrev msOf (t : Fin cfg0.N) : Ms where
  m1 := win0_0.stage (cfg0.slots t 0)
  h1 := Facts₀.hstage0_0 ((cfg0.slots t 0).cast Facts₀.nbuf0_0)
  m2 := win0_1.stage (cfg0.slots t 1)
  h2 := Facts₀.hstage0_1 ((cfg0.slots t 1).cast Facts₀.nbuf0_1)
  m3 := win0_2.stage (cfg0.slots t 2)
  h3 := Facts₀.hstage0_2 ((cfg0.slots t 2).cast Facts₀.nbuf0_2)
  m4 := win0_3.stage (cfg0.slots t 3)
  h4 := Facts₀.hstage0_3 ((cfg0.slots t 3).cast Facts₀.nbuf0_3)
  m5 := win0_4.stage (cfg0.slots t 4)
  h5 := Facts₀.hstage0_4 ((cfg0.slots t 4).cast Facts₀.nbuf0_4)
  m6 := win0_5.stage (cfg0.slots t 5)
  h6 := Facts₀.hstage0_5 ((cfg0.slots t 5).cast Facts₀.nbuf0_5)
  m7 := win0_6.stage (cfg0.slots t 6)
  h7 := Facts₀.hstage0_6 ((cfg0.slots t 6).cast Facts₀.nbuf0_6)
  m8 := win0_7.stage (cfg0.slots t 7)
  h8 := Facts₀.hstage0_7 ((cfg0.slots t 7).cast Facts₀.nbuf0_7)
  m9 := sc0
  h9 := Memref.isWhole_whole _
  m10 := sc1
  h10 := Memref.isWhole_whole _
  m11 := sc2
  h11 := Memref.isWhole_whole _
  m12 := sc3
  h12 := Memref.isWhole_whole _
  m13 := sc4
  h13 := Memref.isWhole_whole _
  m14 := sc5
  h14 := Memref.isWhole_whole _

theorem runs_point (𝒱 : Variants) (t : Fin cfg0.N) : Runs (F := F) 𝒱 c (msOf t) (Gen.bodyAt0 t) (fun S => (bodyF (cfg0.grid.coords t) S, ⟨⟩)) := by
  have h := runs_body (F := F) (𝒱 := 𝒱) (c₀ := c) (M := msOf t) (cfg0.grid.coords t)
  rw [← body_eq] at h
  exact h

/-- The buffers as point `t` meets them: the scratch of `S`, the windows' blocks. -/
abbrev meet (S : St F) (t : Fin cfg0.N) (d5 : Vec F S1x64x256 .f32) (d6 : Vec F S1x64x7168 .f32) (d7 : Vec F S1x64x256 .f32) : St F :=
  {S with
    a1 := Gen.iblk m c 0 t
    a2 := Gen.iblk m c 1 t
    a3 := Gen.iblk m c 2 t
    a4 := Gen.iblk m c 3 t
    a5 := Gen.iblk m c 4 t
    a6 := (dat m c).before 5 t d5
    a7 := (dat m c).before 6 t d6
    a8 := (dat m c).before 7 t d7 }

theorem meet_pre (S : St F) (t : Fin cfg0.N) (d5 : Vec F S1x64x256 .f32) (d6 : Vec F S1x64x7168 .f32) (d7 : Vec F S1x64x256 .f32) : Pre (inOf m c) t.val (meet (m := m) (c := c) S t d5 d6 d7) where
  w _ := by
    show Gen.iblk m c 0 t = Gen.iblk m c 0 (pt t.val)
    rw [pt_val]
  cd _ := by
    show Gen.iblk m c 1 t = Gen.iblk m c 1 (pt t.val)
    rw [pt_val]
  sc _ := by
    show Gen.iblk m c 2 t = Gen.iblk m c 2 (pt t.val)
    rw [pt_val]
  zp _ := by
    show Gen.iblk m c 3 t = Gen.iblk m c 3 (pt t.val)
    rw [pt_val]
  om _ := by
    show Gen.iblk m c 4 t = Gen.iblk m c 4 (pt t.val)
    rw [pt_val]
  z h1 h2 k := by
    show tO ((dat m c).before 6 t d6) k = _
    rw [before6 t d6 h1 (by omega), tO_asm, show t.val - 1 - 10 = t.val - 11 by omega]

theorem leaves5 {S S' : St F} (t : Fin cfg0.N) (d5 : Vec F S1x64x256 .f32) (d6 : Vec F S1x64x7168 .f32) (d7 : Vec F S1x64x256 .f32) (h : Post (inOf m c) t.val (meet (m := m) (c := c) S t d5 d6 d7) S') :
    (owns (c : Thread nD τ) ((cfg0.win 5).stage (cfg0.slots t 5)) fullShare S'.a6 : sProp 𝕄) ⊢ (dat m c).leavesExact 5 t := by
  have lt : t.val < 74 := t.isLt
  have hi := idle5_iff ⟨t.val, lt⟩
  have hf := flush5_iff ⟨t.val, lt⟩
  refine leaves_intro 5 t S'.a6 (fun a b => ⟨d5, h.y' ?_⟩) (fun a => ?_)
  · have := hi.1 a; simp only at this; omega
  · by_cases g : t.val = 73
    · refine (h.y' (.inr (by omega))).trans ((before5 t d5 g).trans ?_)
      show aft5 m c 72 = aft5 m c t.val
      rw [g]; rfl
    · have g1 : 9 ≤ t.val := by
        by_contra g2
        rcases a with a | a
        · exact absurd (hi.2 (.inl (by simp only; omega))) (by rw [show cfg0.idle 5 (ix ⟨t.val, lt⟩) = false from a]; decide)
        · have := hf.1 a; simp only at this; omega
      refine (h.y g1 (by omega)).trans ?_
      show _ = aft5 m c t.val
      unfold aft5; rw [show min (t.val - 9) 63 = t.val - 9 by omega]

theorem leaves6 {S S' : St F} (t : Fin cfg0.N) (d5 : Vec F S1x64x256 .f32) (d6 : Vec F S1x64x7168 .f32) (d7 : Vec F S1x64x256 .f32) (h : Post (inOf m c) t.val (meet (m := m) (c := c) S t d5 d6 d7) S') :
    (owns (c : Thread nD τ) ((cfg0.win 6).stage (cfg0.slots t 6)) fullShare S'.a7 : sProp 𝕄) ⊢ (dat m c).leavesExact 6 t := by
  have lt : t.val < 74 := t.isLt
  have hi := idle6_iff ⟨t.val, lt⟩
  have hf := flush6_iff ⟨t.val, lt⟩
  refine leaves_intro 6 t S'.a7 (fun a b => ⟨d6, h.z' (hi.1 a)⟩) (fun a => ?_)
  have g1 : 10 ≤ t.val := by
    by_contra g2
    rcases a with a | a
    · exact absurd (hi.2 (by simp only; omega)) (by rw [show cfg0.idle 6 (ix ⟨t.val, lt⟩) = false from a]; decide)
    · have := hf.1 a; simp only at this; omega
  exact eq_asm (h.z g1)

theorem leaves7 {S S' : St F} (t : Fin cfg0.N) (d5 : Vec F S1x64x256 .f32) (d6 : Vec F S1x64x7168 .f32) (d7 : Vec F S1x64x256 .f32) (h : Post (inOf m c) t.val (meet (m := m) (c := c) S t d5 d6 d7) S') :
    (owns (c : Thread nD τ) ((cfg0.win 7).stage (cfg0.slots t 7)) fullShare S'.a8 : sProp 𝕄) ⊢ (dat m c).leavesExact 7 t := by
  have lt : t.val < 74 := t.isLt
  have hi := idle7_iff ⟨t.val, lt⟩
  have hf := flush7_iff ⟨t.val, lt⟩
  refine leaves_intro 7 t S'.a8 (fun a b => ⟨d7, h.y0' (hi.1 a)⟩) (fun a => ?_)
  by_cases g : t.val = 73
  · refine (h.y0' (by omega)).trans ((before7 t d7 g).trans ?_)
    show aft7 m c 72 = aft7 m c t.val
    rw [g]; rfl
  · have g1 : t.val < 64 := by
      by_contra g2
      rcases a with a | a
      · exact absurd (hi.2 (by simp only; omega)) (by rw [show cfg0.idle 7 (ix ⟨t.val, lt⟩) = false from a]; decide)
      · have := hf.1 a; simp only at this; omega
    refine (h.y0 g1).trans ?_
    show _ = aft7 m c t.val
    unfold aft7; rw [show min t.val 63 = t.val by omega]

/-- ONE POINT of the pipeline. -/
theorem point (𝒱 : Variants) (t : Fin cfg0.N) :
    iprop(phi m c t.val ∗ (dat m c).owesAt () t.castSucc
      ∗ (∃ d, owns (c : Thread nD τ) (Gen.st0_0 t) fullShare ((dat m c).before 0 t d)) ∗ (∃ d, owns (c : Thread nD τ) (Gen.st0_1 t) fullShare ((dat m c).before 1 t d))
      ∗ (∃ d, owns (c : Thread nD τ) (Gen.st0_2 t) fullShare ((dat m c).before 2 t d)) ∗ (∃ d, owns (c : Thread nD τ) (Gen.st0_3 t) fullShare ((dat m c).before 3 t d))
      ∗ (∃ d, owns (c : Thread nD τ) (Gen.st0_4 t) fullShare ((dat m c).before 4 t d)) ∗ (∃ d, owns (c : Thread nD τ) (Gen.st0_5 t) fullShare ((dat m c).before 5 t d))
      ∗ (∃ d, owns (c : Thread nD τ) (Gen.st0_6 t) fullShare ((dat m c).before 6 t d)) ∗ (∃ d, owns (c : Thread nD τ) (Gen.st0_7 t) fullShare ((dat m c).before 7 t d)))
    ⊢ wp frame (wpE (defs₀ (F := F)) 𝒱 (c : Thread nD τ) none) Set.univ (Gen.bodyAt0 t) fun _ =>
      iprop(phi m c (t.val + 1) ∗ (dat m c).owesAt () t.succ
        ∗ owns (c : Thread nD τ) (Gen.st0_0 t) fullShare (Gen.iblk m c 0 t) ∗ owns (c : Thread nD τ) (Gen.st0_1 t) fullShare (Gen.iblk m c 1 t)
        ∗ owns (c : Thread nD τ) (Gen.st0_2 t) fullShare (Gen.iblk m c 2 t) ∗ owns (c : Thread nD τ) (Gen.st0_3 t) fullShare (Gen.iblk m c 3 t)
        ∗ owns (c : Thread nD τ) (Gen.st0_4 t) fullShare (Gen.iblk m c 4 t)
        ∗ (dat m c).leavesExact 5 t ∗ (dat m c).leavesExact 6 t ∗ (dat m c).leavesExact 7 t) := by
  have lt : t.val < 74 := t.isLt
  simp only [Gen.before0_0_of m (dat m c) rfl (fun _ => rfl), Gen.before0_1_of m (dat m c) rfl (fun _ => rfl), Gen.before0_2_of m (dat m c) rfl (fun _ => rfl),
    Gen.before0_3_of m (dat m c) rfl (fun _ => rfl), Gen.before0_4_of m (dat m c) rfl (fun _ => rfl)]
  unfold phi scr
  iintro ⟨⟨⟨%S, %hI, H9, H10, H11, H12, H13, H14⟩, Hr⟩, Ho, ⟨%d0, H1⟩, ⟨%d1, H2⟩, ⟨%d2, H3⟩, ⟨%d3, H4⟩, ⟨%d4, H5⟩, ⟨%d5, H6⟩, ⟨%d6, H7⟩, ⟨%d7, H8⟩⟩
  have hI' : Inv (inOf m c) t.val (meet (m := m) (c := c) S t d5 d6 d7) := ⟨hI.e, hI.y0b, hI.p, hI.pk, hI.pb, hI.yb⟩
  obtain ⟨hI2, hP⟩ := inv_step ⟨t.val, lt⟩ hI' (meet_pre S t d5 d6 d7)
  iapply (runs_point (F := F) (c := c) 𝒱 t (meet (m := m) (c := c) S t d5 d6 d7) _)
  unfold own
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨H1, H2, H3, H4, H5, H6, H7, H8, H9, H10, H11, H12, H13, H14⟩
  isplitl [H9 H10 H11 H12 H13 H14 Hr]
  · isplitr [Hr]
    · iexists (bodyF (cfg0.grid.coords t) (meet (m := m) (c := c) S t d5 d6 d7))
      isplitr
      · ipureintro; exact hI2
      isplitl [H9]; · iexact H9
      isplitl [H10]; · iexact H10
      isplitl [H11]; · iexact H11
      isplitl [H12]; · iexact H12
      isplitl [H13]; · iexact H13
      iexact H14
    · iexact Hr
  isplitl [Ho]; · iexact Ho
  have e1 : (bodyF (cfg0.grid.coords t) (meet (m := m) (c := c) S t d5 d6 d7)).a1 = Gen.iblk m c 0 t := hP.same.1
  have e2 : (bodyF (cfg0.grid.coords t) (meet (m := m) (c := c) S t d5 d6 d7)).a2 = Gen.iblk m c 1 t := hP.same.2.1
  have e3 : (bodyF (cfg0.grid.coords t) (meet (m := m) (c := c) S t d5 d6 d7)).a3 = Gen.iblk m c 2 t := hP.same.2.2.1
  have e4 : (bodyF (cfg0.grid.coords t) (meet (m := m) (c := c) S t d5 d6 d7)).a4 = Gen.iblk m c 3 t := hP.same.2.2.2.1
  have e5 : (bodyF (cfg0.grid.coords t) (meet (m := m) (c := c) S t d5 d6 d7)).a5 = Gen.iblk m c 4 t := hP.same.2.2.2.2
  rw [← e1, ← e2, ← e3, ← e4, ← e5]
  isplitl [H1]; · iexact H1
  isplitl [H2]; · iexact H2
  isplitl [H3]; · iexact H3
  isplitl [H4]; · iexact H4
  isplitl [H5]; · iexact H5
  isplitl [H6]; · iapply (leaves5 t d5 d6 d7 hP); iexact H6
  isplitl [H7]; · iapply (leaves6 t d5 d6 d7 hP); iexact H7
  iapply (leaves7 t d5 d6 d7 hP); iexact H8

theorem obligation (𝒱 : Variants) (c : Dev nD) : BodyObligation (dat m c) (defs₀ (F := F)) 𝒱 () Set.univ := fun t => by
  rw [Gen.bigSep_W0, Gen.bigSep_W0]
  exact point (m := m) (c := c) 𝒱 t

end Cert.KernelIdeal.Tiles

end
-- ==== Proof.Run.lean ====
/- The kernel's run: it ends, every counter at zero, its arguments unchanged, and its windows' arrays at what the
   pipeline writes back. -/
module

public import proofs.«01_k».proof.Proof.Flight

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline. -/
def dats : (p : Fin 1) → (c : Dev nD) → Dat τ (Elt F) Unit ℕ (UR sig nD τ) ℕ (cfgs p) c
  | 0 => fun c => dat m c
  | ⟨_ + 1, h⟩ => absurd h (Nat.not_lt.2 (Nat.le_add_left _ _))

theorem scratch_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d) ∗ (∃ d, owns (c : Thread nD τ) sc5 fullShare d))
        ∗ ∃ r, prngReg c r) := by
  unfold Pipeline.ΦA
  rw [Gen.scopedRest0_eq]
  simp only [sc0, sc1, sc2, sc3, sc4, sc5, owns_whole]; try rfl

theorem phi_in (c : Dev nD) : (Pipeline.ΦA spec0 c : sProp 𝕄) ⊢ phi m c 0 := by
  rw [scratch_eq]
  unfold phi scr
  iintro ⟨⟨⟨%d9, H9⟩, ⟨%d10, H10⟩, ⟨%d11, H11⟩, ⟨%d12, H12⟩, ⟨%d13, H13⟩, ⟨%d14, H14⟩⟩, Hr⟩
  isplitr [Hr]
  · iexists ⟨Gen.iblk m c 0 (pt 0), Gen.iblk m c 1 (pt 0), Gen.iblk m c 2 (pt 0), Gen.iblk m c 3 (pt 0), Gen.iblk m c 4 (pt 0), aft5 m c 0, aft6 m c 0, aft7 m c 0, d9, d10, d11, d12, d13, d14⟩
    isplitr
    · ipureintro; exact inv_zero _
    isplitl [H9]; · iexact H9
    isplitl [H10]; · iexact H10
    isplitl [H11]; · iexact H11
    isplitl [H12]; · iexact H12
    isplitl [H13]; · iexact H13
    iexact H14
  · iexact Hr

theorem phi_out (c : Dev nD) (t : ℕ) : (phi m c t : sProp 𝕄) ⊢ Pipeline.ΦA spec0 c := by
  rw [scratch_eq]
  unfold phi scr
  iintro ⟨⟨%S, -, H9, H10, H11, H12, H13, H14⟩, Hr⟩
  isplitr [Hr]
  · isplitl [H9]; · iexists _; iexact H9
    isplitl [H10]; · iexists _; iexact H10
    isplitl [H11]; · iexists _; iexact H11
    isplitl [H12]; · iexists _; iexact H12
    isplitl [H13]; · iexists _; iexact H13
    iexists _; iexact H14
  · iexact Hr

theorem A_eq (c : Dev nD) (w : Fin cfg0.W) : (dats m 0 c).A w = Gen.V m c (Pipeline.arrRef spec0 w) := rfl

set_option backward.isDefEq.respectTransparency.types false in
/-- THE RUN. -/
theorem run_main : θ_run defs (onTc (τ := τ) (main (F := F))) (s₀ m ρ)
    (fun r => Pipeline.FramePost cfgs (dats m) 0 (Pipeline.afterTail₀ cfgs (dats m) 0 (Gen.V0 m) [Gen.hostOps1]) r ∧ r.2.sem = fun _ => 0) :=
  Pipeline.θ_run_frame_around_track (Q' := _) cfgs (dats m) (0 : Fin 1) Gen.launch0 defs₀ Variants.none m ρ main
    (hbody := fun c => (obligation Variants.none c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (hmain := Gen.hmain m Variants.none) (hA := A_eq m) (hin := phi_in m) (hout := fun c => phi_out m c _) (hQ' := fun _ h => h)

/-- THE FRAME: it runs, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((A_eq m c 0).trans (Gen.V_main_arg0 m c))),
      ((h.1 c).1 1).trans (((dats m 0 c).arrAt_in 1 rfl _).trans ((A_eq m c 1).trans (Gen.V_main_arg1 m c))),
      (((h.1 c).2 main_arg2 (Pipeline.mem_restRefs_of main_arg2 (by decide) (by decide))).trans (Gen.W_main_arg2 m (dats m) c)),
      (((h.1 c).2 main_arg3 (Pipeline.mem_restRefs_of main_arg3 (by decide) (by decide))).trans (Gen.W_main_arg3 m (dats m) c)),
      (((h.1 c).2 main_arg4 (Pipeline.mem_restRefs_of main_arg4 (by decide) (by decide))).trans (Gen.W_main_arg4 m (dats m) c))⟩, h.2⟩) (run_main m ρ)

end Cert.KernelIdeal.Tiles

end
-- ==== Proof.KernelFrame.lean ====
/- The kernel's frame at the machine's formats: its program is, text for text, the one the frame was proved of. -/
module

public import proofs.«01_k».proof.Proof.Run
public import proofs.«01_k».proof.Proof.Gen.Kernel
public import proofs.«01_k».proof.Defs

@[expose] public section

set_option maxRecDepth 16384

noncomputable section

namespace Cert.KernelIdeal.Tiles

open Idealize.ShloMosaic Idealize.ShloMosaic.TcCoe Idealize.ShloMosaic.Tactic
open Idealize.SL.Sem

/-- The frame of `KernelIdeal`'s program read at `Bits`. -/
def FrameBits : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The frame of `Kernel`'s program at `Bits`. -/
def FrameKernel : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

theorem frameBits : FrameBits := fun m g => frame (F := Bits) m g

/-- The two programs are one. -/
theorem frame_same : FrameBits = FrameKernel := by sl_kernel_rfl

theorem frameKernel : FrameKernel := frame_same ▸ frameBits

end Cert.KernelIdeal.Tiles

end
-- ==== Proof.Spec.lean ====
/- The mathematics of the range finder over the extended reals: the residual of the int4 codes and the four products,
   each an exact sum, and how a sum over 7168 columns or 2048 rows splits into tiles of 256. -/
module

public import Idealize.ShloMosaic.Lib.ValueIdx
public import Idealize.ShloMosaic.PureOps.Ideal.Laws

@[expose] public section

noncomputable section

namespace Cert.Spec

open Idealize.ShloMosaic Idealize.ShloMosaic.ValueIdx
open scoped BigOperators

/-- A rank-3 array's element at three natural coordinates (taken modulo the extents). -/
def at3 {α : Type} {a b c : ℕ} [NeZero a] [NeZero b] [NeZero c] (X : (⟨3, ![a, b, c]⟩ : Shape).Idx → α) (i j k : ℕ) : α :=
  X (ix3 (Fin.ofNat a i) (Fin.ofNat b j) (Fin.ofNat c k))

theorem at3_eq {α : Type} {a b c : ℕ} [NeZero a] [NeZero b] [NeZero c] (X : (⟨3, ![a, b, c]⟩ : Shape).Idx → α)
    (y : (⟨3, ![a, b, c]⟩ : Shape).Idx) {i j k : ℕ} (h0 : (y 0).val = i) (h1 : (y 1).val = j) (h2 : (y 2).val = k) :
    X y = at3 X i j k := by
  subst h0 h1 h2
  unfold at3
  refine congrArg X (funext fun d => Fin.ext ?_)
  match d with
  | 0 => exact (Nat.mod_eq_of_lt (y 0).isLt).symm
  | 1 => exact (Nat.mod_eq_of_lt (y 1).isLt).symm
  | 2 => exact (Nat.mod_eq_of_lt (y 2).isLt).symm

/-- The five arguments: weights, packed codes, scales, zero points, test matrix. -/
structure Args where
  w : (⟨3, ![8, 2048, 7168]⟩ : Shape).Idx → EReal
  cd : (⟨3, ![8, 2048, 3584]⟩ : Shape).Idx → BitVec 8
  sc : (⟨3, ![8, 2048, 56]⟩ : Shape).Idx → EReal
  zp : (⟨3, ![8, 2048, 56]⟩ : Shape).Idx → BitVec 8
  om : (⟨3, ![8, 7168, 64]⟩ : Shape).Idx → EReal

/-- The value of a byte's low (`h = 0`) or high (`h = 1`) nibble. -/
def nib (x : BitVec 8) (h : ℕ) : EReal :=
  (FloatOps.sitofp .f32 (IntOp.andi (IntOp.shrsi .vector (x.setWidth 32) (BitVec.ofNat 32 (4 * h))) 15#32) : Ideal .f32)

/-- A zero point's value. -/
def zpt (x : BitVec 8) : EReal := (FloatOps.sitofp .f32 (x.setWidth 32) : Ideal .f32)

variable (A : Args)

/-- The residual of batch `b`, row `s`, column `d`. -/
def E (b s d : ℕ) : EReal :=
  at3 A.w b s d - (nib (at3 A.cd b s (d / 2)) (d % 2) - zpt (at3 A.zp b s (d / 128))) * at3 A.sc b s (d / 128)

/-- A sum over the columns, of the residual against `f`. -/
def overCols (b s : ℕ) (f : ℕ → EReal) : EReal := ∑ d : Fin 7168, E A b s d.val * f d.val
/-- A sum over the rows, of the residual against `f`. -/
def overRows (b d : ℕ) (f : ℕ → EReal) : EReal := ∑ s : Fin 2048, E A b s.val d * f s.val

def y0 (b s r : ℕ) : EReal := overCols A b s fun d => at3 A.om b d r
def p (b d r : ℕ) : EReal := overRows A b d fun s => y0 A b s r
def y (b s r : ℕ) : EReal := overCols A b s fun d => p A b d r
def z (b d r : ℕ) : EReal := overRows A b d fun s => y A b s r

/-! ## Tiles -/

/-- A sum over `m · n` terms, tile by tile. -/
theorem sum_tiles {M : Type} [AddCommMonoid M] (m n N : ℕ) (h : m * n = N) (f : ℕ → M) :
    ∑ d : Fin N, f d.val = ∑ k : Fin m, ∑ i : Fin n, f (n * k.val + i.val) := by
  subst h
  rw [← Fintype.sum_prod_type' (f := fun (k : Fin m) (i : Fin n) => f (n * k.val + i.val))]
  refine (Fintype.sum_equiv finProdFinEquiv _ _ fun x => ?_).symm
  rw [finProdFinEquiv_apply_val, Nat.add_comm]

theorem overCols_tiles (b s : ℕ) (f : ℕ → EReal) :
    overCols A b s f = ∑ k : Fin 28, ∑ i : Fin 256, E A b s (256 * k.val + i.val) * f (256 * k.val + i.val) :=
  sum_tiles 28 256 7168 rfl fun d => E A b s d * f d

theorem overRows_tiles (b d : ℕ) (f : ℕ → EReal) :
    overRows A b d f = ∑ k : Fin 8, ∑ i : Fin 256, E A b (256 * k.val + i.val) d * f (256 * k.val + i.val) :=
  sum_tiles 8 256 2048 rfl fun s => E A b s d * f s

end Cert.Spec

end
-- ==== Proof.Sums.lean ====
/- The kernel's matrices over the extended reals: each is the mathematics of Spec.lean at its tile row. -/
module

public import proofs.«01_k».proof.Proof.Spec
public import proofs.«01_k».proof.Proof.Values
public import Idealize.ShloMosaic.Lib.Pipeline.Value
public import Idealize.ShloMosaic.Lib.ValueLayout

@[expose] public section

set_option maxRecDepth 16384

noncomputable section

namespace Cert.KernelIdeal.Tiles

open Idealize.ShloMosaic Idealize.SL.Sem
open Idealize.ShloMosaic.ValueIdx Idealize.ShloMosaic.VecWindow Cert.Spec
open Cert.KernelIdeal
open Facts₀ Facts
open scoped BigOperators

/-- The input blocks are the arguments' rows: tile row `n` is batch `n / 8`, rows `256 · (n % 8)` and up. -/
structure Meets (B : In Ideal) (A : Args) : Prop where
  w : ∀ n < 64, ∀ y : S1x256x7168.Idx, B.w n y = at3 A.w (n / 8) (256 * (n % 8) + (y 1).val) (y 2).val
  cd : ∀ n < 64, ∀ y : S1x256x3584.Idx, B.cd n y = at3 A.cd (n / 8) (256 * (n % 8) + (y 1).val) (y 2).val
  sc : ∀ n < 64, ∀ y : S1x56x256.Idx, B.sc n y = at3 A.sc (n / 8) (256 * (n % 8) + (y 2).val) (y 1).val
  zp : ∀ n < 64, ∀ y : S1x56x256.Idx, B.zp n y = at3 A.zp (n / 8) (256 * (n % 8) + (y 2).val) (y 1).val
  om : ∀ n < 64, ∀ y : S1x64x7168.Idx, B.om n y = at3 A.om (n / 8) (y 2).val (y 1).val

/-! ## One tile of the residual -/

/-- The row's shift: four times its parity. -/
theorem shift_eq (i : Fin 256) : IntOp.muli 4#32 (IntOp.andi (BitVec.ofNat 32 i.val) 1#32) = BitVec.ofNat 32 (4 * (i.val % 2)) := by
  revert i; decide +kernel

theorem codesOf_apply (v : Vec Ideal S1x256x128 .i8) (i j : Fin 256) :
    codesOf (F := Ideal) v (ix2 i j) = nib (v (ix3 (0 : Fin 1) j (⟨i.val / 2, by omega⟩ : Fin 128))) (i.val % 2) := by
  unfold codesOf
  show (FloatOps.sitofp .bf16 (IntOp.andi (IntOp.shrsi .vector (shapeCast S256x256 _ _ (ix2 i j)) (IntOp.muli 4#32 (IntOp.andi (iota .tc S256x256 32 [0] iota_S256x256_d0_w32 (ix2 i j)) 1#32))) 15#32) : Ideal .bf16) = _
  rw [iota_single_apply, shapeCast_apply _ shapeCasts_S128x2x256_S256x256 (ix2 i j) (ix3 (⟨i.val / 2, by omega⟩ : Fin 128) (⟨i.val % 2, by omega⟩ : Fin 2) j) (by
      rw [Shape.rowMajor_val_three, Shape.rowMajor_val_two]
      show (i.val / 2 * 2 + i.val % 2) * 256 + j.val = i.val * 256 + j.val
      omega),
    broadcastTo_apply _ _ _ (ix3 (⟨i.val / 2, by omega⟩ : Fin 128) (0 : Fin 1) j) (fun a => match a with
      | ⟨0, _⟩ => rfl | ⟨1, _⟩ => rfl | ⟨2, _⟩ => rfl),
    shapeCast_self, shapeCast_apply _ shapeCasts_S128x256_S128x1x256 _ (ix2 (⟨i.val / 2, by omega⟩ : Fin 128) j) (by
      rw [Shape.rowMajor_val_three, Shape.rowMajor_val_two]
      show i.val / 2 * 256 + j.val = (i.val / 2 * 1 + 0) * 256 + j.val
      omega), extui_apply, transpose_ix2_apply]
  rw [shapeCast_1ab_ab_apply]
  have hs := shift_eq i
  show (FloatOps.sitofp .bf16 (IntOp.andi (IntOp.shrsi .vector _ (IntOp.muli 4#32 (IntOp.andi (BitVec.ofNat 32 i.val) 1#32))) 15#32) : Ideal .bf16) = _
  rw [hs]
  rfl

theorem wtOf_apply (v : Vec Ideal S1x256x256 .bf16) (i j : Fin 256) : wtOf (F := Ideal) v (ix2 i j) = v (ix3 (0 : Fin 1) j i) := by
  unfold wtOf
  rw [transpose_ix2_apply, shapeCast_1ab_ab_apply]

theorem halfOf_apply (a b : FVec Ideal S128x256 .bf16) (s : Vec Ideal S1x1x256 .f32) (z : Vec Ideal S1x256 .f32) (i : Fin 128) (j : Fin 256) :
    halfOf (F := Ideal) a b s z (ix2 i j) = (b (ix2 i j) - (a (ix2 i j) - z (ix2 (0 : Fin 1) j)) * s (ix3 (0 : Fin 1) (0 : Fin 1) j) : EReal) := by
  unfold halfOf
  rw [truncf_apply, subf_apply, mulf_apply, extf_apply, extf_apply, subf_apply, broadcastTo_1b_ab_apply, broadcastTo_1b_ab_apply, truncf_apply,
    shapeCast_1ab_ab_apply]

/-- A tile's element: weight minus code less zero point, times scale, the group by the half. -/
theorem eTile_apply (w : Vec Ideal S1x256x256 .bf16) (cd : Vec Ideal S1x256x128 .i8) (s₀ : Vec Ideal S1x1x256 .f32) (z₀ : Vec Ideal S1x256 .f32)
    (s₁ : Vec Ideal S1x1x256 .f32) (z₁ : Vec Ideal S1x256 .f32) (i j : Fin 256) :
    eTile (F := Ideal) w cd s₀ z₀ s₁ z₁ (ix2 i j)
      = (w (ix3 (0 : Fin 1) j i) - (nib (cd (ix3 (0 : Fin 1) j (⟨i.val / 2, by omega⟩ : Fin 128))) (i.val % 2)
          - (if i.val < 128 then z₀ else z₁) (ix2 (0 : Fin 1) j)) * (if i.val < 128 then s₀ else s₁) (ix3 (0 : Fin 1) (0 : Fin 1) j) : EReal) := by
  unfold eTile
  by_cases h : i.val < 128
  · rw [if_pos h, if_pos h, concatenate_pair_apply_left (s₁ := S128x256) (s₂ := S128x256) _ _ _ _ (ix2 i j) rfl (ix2 (⟨i.val, h⟩ : Fin 128) j) (fun b => match b with | ⟨0, _⟩ => rfl | ⟨1, _⟩ => rfl),
      halfOf_apply, slice2_axis0_apply 0 _ _ _ _ i (by simp), slice2_axis0_apply 0 _ _ _ _ i (by simp), wtOf_apply, codesOf_apply]
  · rw [if_neg h, if_neg h, concatenate_pair_apply_right (s₁ := S128x256) (s₂ := S128x256) _ _ _ _ (ix2 i j) rfl rfl (ix2 (⟨i.val - 128, by omega⟩ : Fin 128) j)
        (fun b hb => match b with | ⟨0, _⟩ => absurd rfl hb | ⟨1, _⟩ => rfl) (by show i.val - 128 + 128 = i.val; omega),
      halfOf_apply, slice2_axis0_apply 128 _ _ _ _ i (by show i.val = 128 + (i.val - 128); omega),
      slice2_axis0_apply 128 _ _ _ _ i (by show i.val = 128 + (i.val - 128); omega), wtOf_apply, codesOf_apply]

variable {B : In Ideal} {A : Args}

theorem zf_apply (hB : Meets B A) {n : ℕ} (hn : n < 64) (g : Fin 56) (j : Fin 256) :
    zfOf (F := Ideal) (B.zp n) (ix2 g j) = zpt (at3 A.zp (n / 8) (256 * (n % 8) + j.val) g.val) := by
  unfold zfOf
  rw [sitofp_apply, extui_apply, shapeCast_1ab_ab_apply, hB.zp n hn]
  rfl

/-- Tile `k` of tile row `n`'s residual is `E`, columns first. -/
theorem vE_apply (hB : Meets B A) {n : ℕ} (hn : n < 64) (k : Fin 28) (i j : Fin 256) :
    vE B n k (ix2 i j) = E A (n / 8) (256 * (n % 8) + j.val) (256 * k.val + i.val) := by
  unfold vE eBlk
  rw [eTile_apply]
  have hw : window (B.w n) ![0, 0, 256 * k.val] S1x256x256.size (inbW k) (ix3 (0 : Fin 1) j i)
      = at3 A.w (n / 8) (256 * (n % 8) + j.val) (256 * k.val + i.val) := by
    refine (hB.w n hn _).trans ?_
    show at3 A.w (n / 8) (256 * (n % 8) + (0 + 1 * j.val)) (256 * k.val + 1 * i.val) = _
    simp only [Nat.zero_add, Nat.one_mul]
  have hc : window (B.cd n) ![0, 0, 128 * k.val] S1x256x128.size (inbC k) (ix3 (0 : Fin 1) j (⟨i.val / 2, by omega⟩ : Fin 128))
      = at3 A.cd (n / 8) (256 * (n % 8) + j.val) ((256 * k.val + i.val) / 2) := by
    refine (hB.cd n hn _).trans ?_
    show at3 A.cd (n / 8) (256 * (n % 8) + (0 + 1 * j.val)) (128 * k.val + 1 * (i.val / 2)) = _
    rw [Nat.zero_add, Nat.one_mul, Nat.one_mul, show 128 * k.val + i.val / 2 = (256 * k.val + i.val) / 2 by omega]
  have hs (g : Fin 56) : window (B.sc n) ![0, g.val, 0] S1x1x256.size (inbS g) (ix3 (0 : Fin 1) (0 : Fin 1) j)
      = at3 A.sc (n / 8) (256 * (n % 8) + j.val) g.val := by
    refine (hB.sc n hn _).trans ?_
    show at3 A.sc (n / 8) (256 * (n % 8) + (0 + 1 * j.val)) (g.val + 1 * 0) = _
    simp only [Nat.zero_add, Nat.one_mul, Nat.mul_zero, Nat.add_zero]
  have hz (g : Fin 56) : window (zfOf (F := Ideal) (B.zp n)) ![g.val, 0] S1x256.size (inbZ g) (ix2 (0 : Fin 1) j)
      = zpt (at3 A.zp (n / 8) (256 * (n % 8) + j.val) g.val) := by
    refine Eq.trans (congrArg (zfOf (F := Ideal) (B.zp n)) (funext fun a => Fin.ext ?_)) (zf_apply hB hn g j)
    match a with
    | 0 => show g.val + 1 * 0 = g.val; omega
    | 1 => show 0 + 1 * j.val = j.val; omega
  unfold E
  rw [hw, hc, show i.val % 2 = (256 * k.val + i.val) % 2 by omega]
  by_cases h : i.val < 128
  · rw [if_pos h, if_pos h, hs, hz, show (grp₀ k).val = (256 * k.val + i.val) / 128 by show 2 * k.val = _; omega]
  · rw [if_neg h, if_neg h, hs, hz, show (grp₁ k).val = (256 * k.val + i.val) / 128 by show 2 * k.val + 1 = _; omega]

/-! ## The products and the sums -/

theorem dotOf_apply (a : FVec Ideal S64x256 .bf16) (e : FVec Ideal S256x256 .bf16) (r : Fin 64) (j : Fin 256) :
    dotOf (F := Ideal) a e (ix2 r j) = (∑ i : Fin 256, a (ix2 r i) * e (ix2 i j) : EReal) := by
  unfold dotOf
  let D := dot_S64x256_S256x256_S64x256_1_0_0_1_n_n
  have hr : D.contr.rank = 1 := rfl
  have hs : D.contr.size ⟨0, by rw [hr]; omega⟩ = 256 := rfl
  show FloatOps.matmul D none a e (constant S64x256 .f32 0x00000000#32) (ix2 r j) = _
  rw [Ideal.matmul_constant_zero_apply, ← Equiv.sum_comp (contrEquiv1 D 256 hr hs).symm]
  refine Finset.sum_congr rfl fun k _ => ?_
  have hk := contrEquiv1_symm_val D 256 hr hs k
  have el : D.lhsIdx (ix2 r j) ((contrEquiv1 D 256 hr hs).symm k) = ix2 r k := by
    funext a; apply Fin.ext
    match a with
    | ⟨0, _⟩ => rfl
    | ⟨1, _⟩ => exact hk
  have er : D.rhsIdx (ix2 r j) ((contrEquiv1 D 256 hr hs).symm k) = ix2 k j := by
    funext a; apply Fin.ext
    match a with
    | ⟨0, _⟩ => exact hk
    | ⟨1, _⟩ => rfl
  rw [el, er]

theorem dotTOf_apply (a : FVec Ideal S64x256 .bf16) (e : FVec Ideal S256x256 .bf16) (r : Fin 64) (j : Fin 256) :
    dotTOf (F := Ideal) a e (ix2 r j) = (∑ i : Fin 256, a (ix2 r i) * e (ix2 j i) : EReal) := by
  unfold dotTOf
  let D := dot_S64x256_S256x256_S64x256_1_1_0_0_n_n
  have hr : D.contr.rank = 1 := rfl
  have hs : D.contr.size ⟨0, by rw [hr]; omega⟩ = 256 := rfl
  show FloatOps.matmul D none a e (constant S64x256 .f32 0x00000000#32) (ix2 r j) = _
  rw [Ideal.matmul_constant_zero_apply, ← Equiv.sum_comp (contrEquiv1 D 256 hr hs).symm]
  refine Finset.sum_congr rfl fun k _ => ?_
  have hk := contrEquiv1_symm_val D 256 hr hs k
  have el : D.lhsIdx (ix2 r j) ((contrEquiv1 D 256 hr hs).symm k) = ix2 r k := by
    funext a; apply Fin.ext
    match a with
    | ⟨0, _⟩ => rfl
    | ⟨1, _⟩ => exact hk
  have er : D.rhsIdx (ix2 r j) ((contrEquiv1 D 256 hr hs).symm k) = ix2 j k := by
    funext a; apply Fin.ext
    match a with
    | ⟨0, _⟩ => rfl
    | ⟨1, _⟩ => exact hk
  rw [el, er]

theorem foldT_apply (sh : Fin 28 → FVec Ideal S64x256 .f32) (y : S64x256.Idx) : ∀ (n c : ℕ) (h : c + n = 28) (acc : FVec Ideal S64x256 .f32),
    foldT (F := Ideal) sh n c h acc y = (acc y + ∑ i : Fin n, sh ⟨c + i.val, by omega⟩ y : EReal) := by
  intro n
  induction n with
  | zero => intro c h acc; unfold foldT; rw [Fin.sum_univ_zero, add_zero]
  | succ n ih =>
    intro c h acc
    unfold foldT
    rw [ih, Fin.sum_univ_succ, addf_apply, add_assoc]
    refine congrArg (acc y + ·) (congrArg (sh ⟨c, by omega⟩ y + ·) (Finset.sum_congr rfl fun i _ => ?_))
    exact congrArg (fun k => sh k y) (Fin.ext (by show c + 1 + i.val = c + (i.val + 1); omega))

/-- The shares' sum is a sum. -/
theorem sumT_apply (sh : Fin 28 → FVec Ideal S64x256 .f32) (y : S64x256.Idx) : sumT (F := Ideal) sh y = (∑ k, sh k y : EReal) := by
  unfold sumT
  rw [foldT_apply]
  refine Eq.trans ?_ (Fin.sum_univ_succ (n := 27) (fun k => (sh k y : EReal))).symm
  refine congrArg (sh 0 y + ·) (Finset.sum_congr rfl fun i _ => ?_)
  exact congrArg (fun k => sh k y) (Fin.ext (by show 1 + i.val = i.val + 1; omega))

theorem accOf_apply (n : ℕ) (x d : FVec Ideal S64x256 .f32) (y : S64x256.Idx) :
    accOf (F := Ideal) (flag n) x d y = (if n % 8 = 0 then d y else x y + d y : EReal) := by
  unfold accOf flag
  by_cases h : n % 8 = 0
  · rw [if_pos h, if_pos h, addf_apply, select_one]
    show (Scalar.ofBits (F := Ideal) .f32 0x00000000#32 : EReal) + d y = d y
    rw [show (Scalar.ofBits (F := Ideal) .f32 0x00000000#32 : EReal) = 0 from Ideal.ofBits_zero_f32, zero_add]
  · rw [if_neg h, if_neg h, addf_apply, select_zero]

/-- Tile row `n` of `E` times a 64-row left factor, summed over all columns. -/
theorem cols_apply (hB : Meets B A) {n : ℕ} (hn : n < 64) (L : Fin 28 → FVec Ideal S64x256 .bf16) (f : ℕ → EReal) (r : Fin 64) (j : Fin 256)
    (hL : ∀ k i, L k (ix2 r i) = f (256 * k.val + i.val)) :
    sumT (fun k => dotOf (L k) (vE B n k)) (ix2 r j) = overCols A (n / 8) (256 * (n % 8) + j.val) f := by
  rw [sumT_apply, overCols_tiles]
  refine Finset.sum_congr rfl fun k _ => ?_
  rw [dotOf_apply]
  refine Finset.sum_congr rfl fun i _ => ?_
  rw [hL, vE_apply hB hn, mul_comm]

theorem vY0_apply (hB : Meets B A) {n : ℕ} (hn : n < 64) (r : Fin 64) (j : Fin 256) :
    vY0 B n (ix2 r j) = y0 A (n / 8) (256 * (n % 8) + j.val) r.val := by
  unfold vY0
  refine cols_apply hB hn _ _ r j fun k i => ?_
  unfold tO
  rw [shapeCast_1ab_ab_apply]
  refine (hB.om n hn _).trans ?_
  show at3 A.om (n / 8) (256 * k.val + 1 * i.val) (0 + 1 * r.val) = _
  simp only [Nat.zero_add, Nat.one_mul]

/-- The share of a batch's tile row `a`, of `E` against `f`. -/
def share (A : Args) (b d : ℕ) (f : ℕ → EReal) (a : ℕ) : EReal := ∑ i : Fin 256, E A b (256 * a + i.val) d * f (256 * a + i.val)
/-- A batch's tile rows up to the `q`-th. -/
def upTo (A : Args) (b d : ℕ) (f : ℕ → EReal) (q : ℕ) : EReal := ∑ a : Fin (q + 1), share A b d f a.val

theorem upTo_zero (b d : ℕ) (f : ℕ → EReal) : upTo A b d f 0 = share A b d f 0 := Fin.sum_univ_one fun a : Fin 1 => share A b d f a.val
theorem upTo_succ (b d : ℕ) (f : ℕ → EReal) (q : ℕ) : upTo A b d f (q + 1) = upTo A b d f q + share A b d f (q + 1) :=
  Fin.sum_univ_castSucc fun a : Fin (q + 1 + 1) => share A b d f a.val
theorem upTo_last (b d : ℕ) (f : ℕ → EReal) : upTo A b d f 7 = overRows A b d f := (overRows_tiles A b d f).symm

/-- One tile row's share. -/
theorem rows_apply (hB : Meets B A) {n : ℕ} (hn : n < 64) (L : FVec Ideal S64x256 .bf16) (f : ℕ → EReal) (k : Fin 28) (r : Fin 64) (j : Fin 256)
    (hL : ∀ i, L (ix2 r i) = f (256 * (n % 8) + i.val)) :
    dotTOf L (vE B n k) (ix2 r j)
      = share A (n / 8) (256 * k.val + j.val) f (n % 8) := by
  rw [dotTOf_apply]
  refine Finset.sum_congr rfl fun i _ => ?_
  rw [hL, vE_apply hB hn, mul_comm]

/-- A running sum over a batch's tile rows is what it should be after each. -/
theorem run_apply (hB : Meets B A) (L : ℕ → FVec Ideal S64x256 .bf16) (X : ℕ → Fin 28 → FVec Ideal S64x256 .f32) (f : ℕ → ℕ → EReal) (k : Fin 28) (r : Fin 64) (j : Fin 256)
    (h0 : X 0 k = accOf (flag 0) (dotTOf (L 0) (vE B 0 k)) (dotTOf (L 0) (vE B 0 k)))
    (hX : ∀ n, X (n + 1) k = accOf (flag (n + 1)) (X n k) (dotTOf (L (n + 1)) (vE B (n + 1) k)))
    (hL : ∀ n < 64, ∀ i, L n (ix2 r i) = f (n / 8) (256 * (n % 8) + i.val)) :
    ∀ n < 64, X n k (ix2 r j) = upTo A (n / 8) (256 * k.val + j.val) (f (n / 8)) (n % 8) := by
  intro n
  induction n with
  | zero =>
    intro hn
    rw [h0, accOf_apply, if_pos rfl, rows_apply hB hn _ (f 0) k r j (hL 0 hn)]
    exact (upTo_zero _ _ _).symm
  | succ n ih =>
    intro hn
    rw [hX, accOf_apply, rows_apply hB hn _ (f ((n + 1) / 8)) k r j (hL _ hn)]
    by_cases h : (n + 1) % 8 = 0
    · rw [if_pos h, h]
      exact (upTo_zero _ _ _).symm
    · rw [if_neg h, ih (by omega), show (n + 1) / 8 = n / 8 by omega, show (n + 1) % 8 = n % 8 + 1 by omega]
      exact (upTo_succ _ _ _ _).symm

theorem vP_apply (hB : Meets B A) {n : ℕ} (hn : n < 64) (k : Fin 28) (r : Fin 64) (j : Fin 256) :
    vP B n k (ix2 r j) = upTo A (n / 8) (256 * k.val + j.val) (fun s => y0 A (n / 8) s r.val) (n % 8) :=
  run_apply hB (fun n => truncf .bf16 (vY0 B n) bitsLt_bf16_f32) (vP B) (fun b s => y0 A b s r.val) k r j rfl (fun _ => rfl)
    (fun n hn i => by rw [truncf_apply]; exact vY0_apply hB hn r i) n hn

theorem vY_apply (hB : Meets B A) {n : ℕ} (hn : n < 64) (r : Fin 64) (j : Fin 256) :
    vY B n (ix2 r j) = y A (n / 8) (256 * (n % 8) + j.val) r.val := by
  unfold vY
  refine cols_apply hB hn _ _ r j fun k i => ?_
  rw [truncf_apply, vP_apply hB (by omega), show (8 * (n / 8) + 7) / 8 = n / 8 by omega, show (8 * (n / 8) + 7) % 8 = 7 by omega, upTo_last]
  rfl

theorem vZ_apply (hB : Meets B A) {n : ℕ} (hn : n < 64) (k : Fin 28) (r : Fin 64) (j : Fin 256) :
    vZ B n k (ix2 r j) = upTo A (n / 8) (256 * k.val + j.val) (fun s => y A (n / 8) s r.val) (n % 8) :=
  run_apply hB (fun n => truncf .bf16 (vY B n) bitsLt_bf16_f32) (vZ B) (fun b s => y A b s r.val) k r j rfl (fun _ => rfl)
    (fun n hn i => by rw [truncf_apply]; exact vY_apply hB hn r i) n hn

/-- A batch's last running sum is `z`. -/
theorem vZ_last (hB : Meets B A) {n : ℕ} (hn : n < 64) (h7 : n % 8 = 7) (k : Fin 28) (r : Fin 64) (j : Fin 256) :
    vZ B n k (ix2 r j) = z A (n / 8) (256 * k.val + j.val) r.val := by
  rw [vZ_apply hB hn, h7, upTo_last]
  rfl

end Cert.KernelIdeal.Tiles

end
-- ==== Proof.Out.lean ====
/- The kernel's run over the extended reals: its input blocks are its arguments' rows, its results the mathematics of
   Spec.lean. -/
module

public import proofs.«01_k».proof.Proof.Sums
public import proofs.«01_k».proof.Proof.Run
public import Idealize.ShloMosaic.Lib.Pipeline.ValueKit
public import Idealize.ShloMosaic.Lib.StableHlo.Run

@[expose] public section

set_option maxRecDepth 16384

noncomputable section

namespace Cert.KernelIdeal.Tiles

open Idealize.ShloMosaic Idealize.ShloMosaic.TcCoe Idealize.SL.Sem
open Idealize.ShloMosaic.ValueIdx Cert.Spec
open Cert.KernelIdeal
open scoped BigOperators

/-! ## Which block a point has -/

theorem index0 : ∀ t : Fin cfg0.N, t.val < 64 → win0_0.index t = ![t.val / 8, t.val % 8, 0] := (by decide +kernel : ∀ t : Fin grid0.N, _)
theorem index1 : ∀ t : Fin cfg0.N, t.val < 64 → win0_1.index t = ![t.val / 8, t.val % 8, 0] := (by decide +kernel : ∀ t : Fin grid0.N, _)
theorem index2 : ∀ t : Fin cfg0.N, t.val < 64 → win0_2.index t = ![t.val / 8, 0, t.val % 8] := (by decide +kernel : ∀ t : Fin grid0.N, _)
theorem index3 : ∀ t : Fin cfg0.N, t.val < 64 → win0_3.index t = ![t.val / 8, 0, t.val % 8] := (by decide +kernel : ∀ t : Fin grid0.N, _)
theorem index4 : ∀ t : Fin cfg0.N, t.val < 64 → win0_4.index t = ![t.val / 8, 0, 0] := (by decide +kernel : ∀ t : Fin grid0.N, _)
theorem index5 : ∀ t : Fin cfg0.N, win0_5.index t = ![min (t.val - 9) 63 / 8, 0, min (t.val - 9) 63 % 8] := (by decide +kernel : ∀ t : Fin grid0.N, _)
theorem index6 : ∀ t : Fin cfg0.N, win0_6.index t = ![(t.val - 10) / 8, 0, 0] := (by decide +kernel : ∀ t : Fin grid0.N, _)
theorem index7 : ∀ t : Fin cfg0.N, win0_7.index t = ![min t.val 63 / 8, 0, min t.val 63 % 8] := (by decide +kernel : ∀ t : Fin grid0.N, _)

variable (m : (ℓ : Loc nD τ sig) → Buf (Elt Ideal) ℓ) (ρ : Dev nD → PrngReg)

/-! ## The arguments, and what the region finds -/

/-- The arguments a memory holds. -/
def argsOf (c : Dev nD) : Args where
  w := m ((c.tc : Thread nD τ).loc main_arg0)
  cd := m ((c.tc : Thread nD τ).loc main_arg1)
  sc := m ((c.tc : Thread nD τ).loc main_arg2)
  zp := m ((c.tc : Thread nD τ).loc main_arg3)
  om := m ((c.tc : Thread nD τ).loc main_arg4)

theorem V_v0 (c : Dev nD) : Gen.V m c main_v0 = transpose S8x56x2048 [0, 2, 1] (argsOf m c).sc Facts₀.transposes_S8x2048x56_S8x56x2048_0_2_1 := by
  simp only [Gen.V, Gen.V0, Gen.hostOps0, List.flatten_cons, List.flatten_nil, List.append_nil]
  after_results_simp
  rfl

theorem V_v1 (c : Dev nD) : Gen.V m c main_v1 = transpose S8x56x2048 [0, 2, 1] (argsOf m c).zp Facts₀.transposes_S8x2048x56_S8x56x2048_0_2_1 := by
  simp only [Gen.V, Gen.V0, Gen.hostOps0, List.flatten_cons, List.flatten_nil, List.append_nil]
  after_results_simp
  rfl

theorem V_v2 (c : Dev nD) : Gen.V m c main_v2 = transpose S8x64x7168 [0, 2, 1] (argsOf m c).om Facts₀.transposes_S8x7168x64_S8x64x7168_0_2_1 := by
  simp only [Gen.V, Gen.V0, Gen.hostOps0, List.flatten_cons, List.flatten_nil, List.append_nil]
  after_results_simp
  rfl

/-- A stack of transposed matrices, at an index. -/
theorem transpose_at {α : Type} {n a b : ℕ} [NeZero n] [NeZero a] [NeZero b] (x : (⟨3, ![n, a, b]⟩ : Shape).Idx → α)
    (h : (⟨3, ![n, a, b]⟩ : Shape).Transposes [0, 2, 1] ⟨3, ![n, b, a]⟩) (y : (⟨3, ![n, b, a]⟩ : Shape).Idx) :
    transpose ⟨3, ![n, b, a]⟩ [0, 2, 1] x h y = at3 x (y 0).val (y 2).val (y 1).val := by
  obtain ⟨k, j, i, rfl⟩ : ∃ k j i, y = ValueIdx.ix3 k j i := ⟨_, _, _, ValueIdx.eq_ix3 y⟩
  rw [transpose_ix3_021_apply]
  exact at3_eq x (ValueIdx.ix3 k i j) rfl rfl rfl

theorem pt_of {n : ℕ} (hn : n < 64) : (pt n).val = n := by show min n 73 = n; omega

/-- The input blocks are the arguments' rows. -/
theorem meets (c : Dev nD) : Meets (inOf m c) (argsOf m c) where
  w n hn y := by
    have e := index0 (pt n) (by rw [pt_of hn]; exact hn)
    rw [pt_of hn] at e
    refine (congrFun (Gen.V_main_arg0 m c) ((win0_0.blk (pt n)).view.emb y)).trans (at3_eq (argsOf m c).w _ ?_ ?_ ?_) <;> blk_simp [e] <;> omega
  cd n hn y := by
    have e := index1 (pt n) (by rw [pt_of hn]; exact hn)
    rw [pt_of hn] at e
    refine (congrFun (Gen.V_main_arg1 m c) ((win0_1.blk (pt n)).view.emb y)).trans (at3_eq (argsOf m c).cd _ ?_ ?_ ?_) <;> blk_simp [e] <;> omega
  sc n hn y := by
    have e := index2 (pt n) (by rw [pt_of hn]; exact hn)
    rw [pt_of hn] at e
    refine (congrFun (V_v0 m c) ((win0_2.blk (pt n)).view.emb y)).trans ((transpose_at _ _ _).trans ?_)
    blk_simp [e]
    rw [Nat.mul_comm (n % 8) 256]
  zp n hn y := by
    have e := index3 (pt n) (by rw [pt_of hn]; exact hn)
    rw [pt_of hn] at e
    refine (congrFun (V_v1 m c) ((win0_3.blk (pt n)).view.emb y)).trans ((transpose_at _ _ _).trans ?_)
    blk_simp [e]
    rw [Nat.mul_comm (n % 8) 256]
  om n hn y := by
    have e := index4 (pt n) (by rw [pt_of hn]; exact hn)
    rw [pt_of hn] at e
    refine (congrFun (V_v2 m c) ((win0_4.blk (pt n)).view.emb y)).trans ((transpose_at _ _ _).trans ?_)
    blk_simp [e]

/-! ## What the windows' arrays end at -/

theorem final5 (c : Dev nD) : (dats m 0 c).arrAt 5 cfg0.N = fun i : S8x64x2048.Idx => y (argsOf m c) (i 0).val (i 2).val (i 1).val := by
  refine (dats m 0 c).arrAt_eq_of_covers 5 _ (by decide +kernel) fun t hf j => ?_
  blk_simp [index5]
  obtain ⟨u, r, s, rfl⟩ : ∃ u r s, (j : S1x64x256.Idx) = ValueIdx.ix3 u r s := ⟨_, _, _, ValueIdx.eq_ix3 j⟩
  refine (shapeCast_ab_1ab_apply (vY (inOf m c) (min (t.val - 9) 63)) _ u r s).trans ((vY_apply (meets m c) (by omega) r s).trans ?_)
  rw [Nat.mul_comm 256]

theorem final6 (c : Dev nD) : (dats m 0 c).arrAt 6 cfg0.N = fun i : S8x64x7168.Idx => z (argsOf m c) (i 0).val (i 2).val (i 1).val := by
  refine (dats m 0 c).arrAt_eq_of_covers 6 _ (by decide +kernel) fun t hf j => ?_
  have lt : t.val < 74 := t.isLt
  have hf' : 10 ≤ t.val ∧ t.val % 8 = 1 := (flush6_iff ⟨t.val, lt⟩).1 hf
  blk_simp [index6]
  show asm (vZ (inOf m c) (t.val - 10)) j = _
  have h2 : (j 2).val < 7168 := (j 2).isLt
  have h1 : (j 1).val < 64 := (j 1).isLt
  unfold asm
  refine Eq.trans (congrArg (vZ (inOf m c) (t.val - 10) _) (funext fun a => Fin.ext ?_))
    ((vZ_last (meets m c) (by omega) (by omega) ⟨(j 2).val / 256, by omega⟩ ⟨(j 1).val, h1⟩ ⟨(j 2).val % 256, Nat.mod_lt _ (by omega)⟩).trans ?_)
  · match a with
    | 0 => rfl
    | 1 => rfl
  · show z (argsOf m c) _ (256 * ((j 2).val / 256) + (j 2).val % 256) _ = _
    rw [Nat.div_add_mod]

theorem final7 (c : Dev nD) : (dats m 0 c).arrAt 7 cfg0.N = fun i : S8x64x2048.Idx => y0 (argsOf m c) (i 0).val (i 2).val (i 1).val := by
  refine (dats m 0 c).arrAt_eq_of_covers 7 _ (by decide +kernel) fun t hf j => ?_
  blk_simp [index7]
  obtain ⟨u, r, s, rfl⟩ : ∃ u r s, (j : S1x64x256.Idx) = ValueIdx.ix3 u r s := ⟨_, _, _, ValueIdx.eq_ix3 j⟩
  refine (shapeCast_ab_1ab_apply (vY0 (inOf m c) (min t.val 63)) _ u r s).trans ((vY0_apply (meets m c) (by omega) r s).trans ?_)
  rw [Nat.mul_comm 256]

/-! ## The results -/

theorem W_v4 (c : Dev nD) : Pipeline.afterTail₀ cfgs (dats m) 0 (Gen.V0 m) [Gen.hostOps1] c main_v4
    = fun j : S8x2048x64.Idx => y (argsOf m c) (j 0).val (j 1).val (j 2).val := by
  have h : Pipeline.withArrays spec0 c (Gen.V0 m c) (fun w => (dats m 0 c).arrAt w cfg0.N) (Proc.devRef .tc main_v3_0) = _ :=
    (Pipeline.withArrays_arr spec0 (by decide) c (Gen.V0 m c) _ 5).trans (final5 m c)
  unfold Pipeline.afterTail₀
  simp only [Gen.hostOps1, List.flatten_cons, List.flatten_nil, List.append_nil]
  after_results_simp
  refine (congrArg (transpose S8x2048x64 [0, 2, 1] · _) h).trans (funext fun j => ?_)
  obtain ⟨b, s, r, rfl⟩ : ∃ b s r, j = ValueIdx.ix3 b s r := ⟨_, _, _, ValueIdx.eq_ix3 j⟩
  exact transpose_ix3_021_apply _ _ b s r

theorem W_v5 (c : Dev nD) : Pipeline.afterTail₀ cfgs (dats m) 0 (Gen.V0 m) [Gen.hostOps1] c main_v5
    = fun j : S8x7168x64.Idx => z (argsOf m c) (j 0).val (j 1).val (j 2).val := by
  have h : Pipeline.withArrays spec0 c (Gen.V0 m c) (fun w => (dats m 0 c).arrAt w cfg0.N) (Proc.devRef .tc main_v3_1) = _ :=
    (Pipeline.withArrays_arr spec0 (by decide) c (Gen.V0 m c) _ 6).trans (final6 m c)
  unfold Pipeline.afterTail₀
  simp only [Gen.hostOps1, List.flatten_cons, List.flatten_nil, List.append_nil]
  after_results_simp
  refine (congrArg (transpose S8x7168x64 [0, 2, 1] · _) h).trans (funext fun j => ?_)
  obtain ⟨b, s, r, rfl⟩ : ∃ b s r, j = ValueIdx.ix3 b s r := ⟨_, _, _, ValueIdx.eq_ix3 j⟩
  exact transpose_ix3_021_apply _ _ b s r

theorem W_v6 (c : Dev nD) : Pipeline.afterTail₀ cfgs (dats m) 0 (Gen.V0 m) [Gen.hostOps1] c main_v6
    = fun j : S8x2048x64.Idx => y0 (argsOf m c) (j 0).val (j 1).val (j 2).val := by
  have h : Pipeline.withArrays spec0 c (Gen.V0 m c) (fun w => (dats m 0 c).arrAt w cfg0.N) (Proc.devRef .tc main_v3_2) = _ :=
    (Pipeline.withArrays_arr spec0 (by decide) c (Gen.V0 m c) _ 7).trans (final7 m c)
  unfold Pipeline.afterTail₀
  simp only [Gen.hostOps1, List.flatten_cons, List.flatten_nil, List.append_nil]
  after_results_simp
  refine (congrArg (transpose S8x2048x64 [0, 2, 1] · _) h).trans (funext fun j => ?_)
  obtain ⟨b, s, r, rfl⟩ : ∃ b s r, j = ValueIdx.ix3 b s r := ⟨_, _, _, ValueIdx.eq_ix3 j⟩
  exact transpose_ix3_021_apply _ _ b s r

/-- The kernel's results are the mathematics of its arguments, which end unchanged. -/
theorem run : θ_run defs (onTc (τ := τ) (main (F := Ideal))) ⟨m, fun _ => 0, ρ⟩ fun r => ∀ c : Dev nD,
      (r.2.mem ((c.tc : Thread nD τ).loc main_v4) = fun j : S8x2048x64.Idx => y (argsOf m c) (j 0).val (j 1).val (j 2).val)
      ∧ (r.2.mem ((c.tc : Thread nD τ).loc main_v5) = fun j : S8x7168x64.Idx => z (argsOf m c) (j 0).val (j 1).val (j 2).val)
      ∧ (r.2.mem ((c.tc : Thread nD τ).loc main_v6) = fun j : S8x2048x64.Idx => y0 (argsOf m c) (j 0).val (j 1).val (j 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).2 main_v4 (Pipeline.mem_restRefs_of main_v4 (by decide) (by decide))).trans (W_v4 m c),
      ((h.1 c).2 main_v5 (Pipeline.mem_restRefs_of main_v5 (by decide) (by decide))).trans (W_v5 m c),
      ((h.1 c).2 main_v6 (Pipeline.mem_restRefs_of main_v6 (by decide) (by decide))).trans (W_v6 m c),
      ((h.1 c).1 0).trans (((dats m 0 c).arrAt_in 0 rfl _).trans ((A_eq m c 0).trans (Gen.V_main_arg0 m c))),
      ((h.1 c).1 1).trans (((dats m 0 c).arrAt_in 1 rfl _).trans ((A_eq m c 1).trans (Gen.V_main_arg1 m c))),
      (((h.1 c).2 main_arg2 (Pipeline.mem_restRefs_of main_arg2 (by decide) (by decide))).trans (Gen.W_main_arg2 m (dats m) c)),
      (((h.1 c).2 main_arg3 (Pipeline.mem_restRefs_of main_arg3 (by decide) (by decide))).trans (Gen.W_main_arg3 m (dats m) c)),
      (((h.1 c).2 main_arg4 (Pipeline.mem_restRefs_of main_arg4 (by decide) (by decide))).trans (Gen.W_main_arg4 m (dats m) c))⟩) (run_main m ρ)

end Cert.KernelIdeal.Tiles

end
-- ==== Proof.RefValue.lean ====
/- The reference's three results, element by element, are the mathematics of Spec.lean. -/
module

public import proofs.«01_k».proof.Proof.Spec
public import proofs.«01_k».proof.Proof.Gen.ReferenceIdeal.Run
public import Idealize.ShloMosaic.Lib.KernelVsHost
public import Idealize.ShloMosaic.Lib.Pipeline.Value

@[expose] public section

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Spec
open scoped BigOperators

/-- `bsd,bdr->bsr` at an index. -/
theorem dotCols_apply {φ₁ φ₂ : FTy} (L : FVec Ideal S8x2048x7168 φ₁) (R : FVec Ideal S8x7168x64 φ₂) (b : Fin 8) (s : Fin 2048) (r : Fin 64) :
    Host.dotGeneral dot_S8x2048x7168_S8x7168x64_S8x2048x64_2_1_1_2_0_0 none L R (ix3 b s r) = ∑ d : Fin 7168, L (ix3 b s d) * R (ix3 b d r) := by
  let D := dot_S8x2048x7168_S8x7168x64_S8x2048x64_2_1_1_2_0_0
  have hr : D.contr.rank = 1 := rfl
  have hs : D.contr.size ⟨0, by rw [hr]; omega⟩ = 7168 := rfl
  show FloatOps.dotGeneral D none .single L R (ix3 b s r) = _
  rw [Ideal.dotGeneral_apply, ← Equiv.sum_comp (contrEquiv1 D 7168 hr hs).symm]
  refine Finset.sum_congr rfl fun k _ => ?_
  have hk := contrEquiv1_symm_val D 7168 hr hs k
  have el : D.lhsIdx (ix3 b s r) ((contrEquiv1 D 7168 hr hs).symm k) = ix3 b s k := by
    funext a; apply Fin.ext
    match a with
    | ⟨0, _⟩ => rfl
    | ⟨1, _⟩ => rfl
    | ⟨2, _⟩ => exact hk
  have er : D.rhsIdx (ix3 b s r) ((contrEquiv1 D 7168 hr hs).symm k) = ix3 b k r := by
    funext a; apply Fin.ext
    match a with
    | ⟨0, _⟩ => rfl
    | ⟨1, _⟩ => exact hk
    | ⟨2, _⟩ => rfl
  rw [el, er]

/-- `bsd,bsr->bdr` at an index. -/
theorem dotRows_apply {φ₁ φ₂ : FTy} (L : FVec Ideal S8x2048x7168 φ₁) (R : FVec Ideal S8x2048x64 φ₂) (b : Fin 8) (d : Fin 7168) (r : Fin 64) :
    Host.dotGeneral dot_S8x2048x7168_S8x2048x64_S8x7168x64_1_1_2_2_0_0 none L R (ix3 b d r) = ∑ s : Fin 2048, L (ix3 b s d) * R (ix3 b s r) := by
  let D := dot_S8x2048x7168_S8x2048x64_S8x7168x64_1_1_2_2_0_0
  have hr : D.contr.rank = 1 := rfl
  have hs : D.contr.size ⟨0, by rw [hr]; omega⟩ = 2048 := rfl
  show FloatOps.dotGeneral D none .single L R (ix3 b d r) = _
  rw [Ideal.dotGeneral_apply, ← Equiv.sum_comp (contrEquiv1 D 2048 hr hs).symm]
  refine Finset.sum_congr rfl fun k _ => ?_
  have hk := contrEquiv1_symm_val D 2048 hr hs k
  have el : D.lhsIdx (ix3 b d r) ((contrEquiv1 D 2048 hr hs).symm k) = ix3 b k d := by
    funext a; apply Fin.ext
    match a with
    | ⟨0, _⟩ => rfl
    | ⟨1, _⟩ => exact hk
    | ⟨2, _⟩ => rfl
  have er : D.rhsIdx (ix3 b d r) ((contrEquiv1 D 2048 hr hs).symm k) = ix3 b k r := by
    funext a; apply Fin.ext
    match a with
    | ⟨0, _⟩ => rfl
    | ⟨1, _⟩ => exact hk
    | ⟨2, _⟩ => rfl
  rw [el, er]

/-- The residual, as an array. -/
def arrE (A : Args) : FVec Ideal S8x2048x7168 .bf16 := fun j => E A (j 0).val (j 1).val (j 2).val
/-- The results, as arrays. -/
def arrY0 (A : Args) : FVec Ideal S8x2048x64 .f32 := fun j => y0 A (j 0).val (j 1).val (j 2).val
def arrP (A : Args) : FVec Ideal S8x7168x64 .f32 := fun j => p A (j 0).val (j 1).val (j 2).val
def arrY (A : Args) : FVec Ideal S8x2048x64 .f32 := fun j => y A (j 0).val (j 1).val (j 2).val
def arrZ (A : Args) : FVec Ideal S8x7168x64 .f32 := fun j => z A (j 0).val (j 1).val (j 2).val

theorem y0_eq (A : Args) : Host.dotGeneral dot_S8x2048x7168_S8x7168x64_S8x2048x64_2_1_1_2_0_0 (φ₂ := .bf16) none (arrE A) A.om = arrY0 A := by
  funext j
  obtain ⟨b, s, r, rfl⟩ : ∃ b s r, j = ix3 b s r := ⟨_, _, _, eq_ix3 j⟩
  rw [dotCols_apply]
  show _ = ∑ d : Fin 7168, E A b.val s.val d.val * at3 A.om b.val d.val r.val
  refine Finset.sum_congr rfl fun d _ => ?_
  exact congrArg (E A b.val s.val d.val * ·) (at3_eq A.om (ix3 b d r) rfl rfl rfl)

theorem p_eq (A : Args) : Host.dotGeneral dot_S8x2048x7168_S8x2048x64_S8x7168x64_1_1_2_2_0_0 none (arrE A) (truncf .bf16 (arrY0 A) bitsLt_bf16_f32) = arrP A := by
  funext j
  obtain ⟨b, s, r, rfl⟩ : ∃ b s r, j = ix3 b s r := ⟨_, _, _, eq_ix3 j⟩
  rw [dotRows_apply]
  rfl

theorem y_eq (A : Args) : Host.dotGeneral dot_S8x2048x7168_S8x7168x64_S8x2048x64_2_1_1_2_0_0 none (arrE A) (truncf .bf16 (arrP A) bitsLt_bf16_f32) = arrY A := by
  funext j
  obtain ⟨b, s, r, rfl⟩ : ∃ b s r, j = ix3 b s r := ⟨_, _, _, eq_ix3 j⟩
  rw [dotCols_apply]
  rfl

theorem z_eq (A : Args) : Host.dotGeneral dot_S8x2048x7168_S8x2048x64_S8x7168x64_1_1_2_2_0_0 none (arrE A) (truncf .bf16 (arrY A) bitsLt_bf16_f32) = arrZ A := by
  funext j
  obtain ⟨b, s, r, rfl⟩ : ∃ b s r, j = ix3 b s r := ⟨_, _, _, eq_ix3 j⟩
  rw [dotRows_apply]
  rfl

/-! ## The residual -/

/-- The unpacked codes. -/
theorem codes_apply (cd : IVec S8x2048x3584 8) (b : Fin 8) (s : Fin 2048) (g : Fin 56) (i : Fin 64) (h : Fin 2) :
    (sitofp .f32 (andi (Host.shrsi (broadcastInDim S8x2048x56x64x2 ![0, 1, 2, 3, 4] bcast_S8x2048x56x64x1_S8x2048x56x64x2_0_1_2_3_4 (shapeCast _ (extui 32 cd natLt_8_32) shapeCasts_S8x2048x3584_S8x2048x56x64x1)) (broadcastInDim S8x2048x56x64x2 ![0, 1, 2, 3, 4] bcast_S1x1x1x1x2_S8x2048x56x64x2_0_1_2_3_4 (broadcastInDim S1x1x1x1x2 ![4] bcast_S2_S1x1x1x1x2_4 ((fun i => lit0 (S2.rowMajor i)))))) (broadcastInDim S8x2048x56x64x2 ![] bcast_S_S8x2048x56x64x2 (constantI S_ 32 15#32))) : FVec Ideal S8x2048x56x64x2 .f32) (ix5 b s g i h)
      = nib (at3 cd b.val s.val (g.val * 64 + i.val)) h.val := by
  show (FloatOps.sitofp .f32 (IntOp.andi (IntOp.shrsi .host (broadcastInDim S8x2048x56x64x2 _ _ _ (ix5 b s g i h)) (broadcastInDim S8x2048x56x64x2 _ _ _ (ix5 b s g i h))) (broadcastInDim S8x2048x56x64x2 _ _ _ (ix5 b s g i h))) : Ideal .f32) = _
  rw [broadcastInDim_apply _ _ _ (ix5 b s g i h) (ix5 b s g i (0 : Fin 1)) (fun a => match a with
      | ⟨0, _⟩ => rfl | ⟨1, _⟩ => rfl | ⟨2, _⟩ => rfl | ⟨3, _⟩ => rfl | ⟨4, _⟩ => rfl),
    broadcastInDim_apply _ _ _ (ix5 b s g i h) (ix5 (0 : Fin 1) (0 : Fin 1) (0 : Fin 1) (0 : Fin 1) h) (fun a => match a with
      | ⟨0, _⟩ => rfl | ⟨1, _⟩ => rfl | ⟨2, _⟩ => rfl | ⟨3, _⟩ => rfl | ⟨4, _⟩ => rfl),
    broadcastInDim_apply _ _ _ (ix5 (0 : Fin 1) (0 : Fin 1) (0 : Fin 1) (0 : Fin 1) h) (ix1 h) (fun a => match a with | ⟨0, _⟩ => rfl),
    broadcastInDim_apply _ _ _ (ix5 b s g i h) ix0 (fun a => a.elim0),
    shapeCast_apply _ _ _ (ix3 b s (⟨g.val * 64 + i.val, by omega⟩ : Fin 3584)) (by
      rw [Shape.rowMajor_val_three, Shape.rowMajor_val_five]
      show (b.val * 2048 + s.val) * 3584 + (g.val * 64 + i.val) = (((b.val * 2048 + s.val) * 56 + g.val) * 64 + i.val) * 1 + 0
      omega), shrsi_unit .host .vector]
  unfold nib
  rw [← at3_eq cd (ix3 b s (⟨g.val * 64 + i.val, by omega⟩ : Fin 3584)) rfl rfl rfl]
  have hl : lit0 (S2.rowMajor (ix1 h)) = BitVec.ofNat 32 (4 * h.val) := by
    revert h; decide
  rw [hl]
  rfl

/-- A group's scalar, spread over its columns. -/
theorem group_apply {α : Type} (x : S8x2048x56.Idx → α) (b : Fin 8) (s : Fin 2048) (g : Fin 56) (i : Fin 64) (h : Fin 2) :
    broadcastInDim S8x2048x56x64x2 ![0, 1, 2, 3, 4] bcast_S8x2048x56x1x1_S8x2048x56x64x2_0_1_2_3_4 (broadcastInDim S8x2048x56x1x1 ![0, 1, 2] bcast_S8x2048x56_S8x2048x56x1x1_0_1_2 x) (ix5 b s g i h)
      = at3 x b.val s.val g.val := by
  rw [broadcastInDim_apply _ _ _ (ix5 b s g i h) (ix5 b s g (0 : Fin 1) (0 : Fin 1)) (fun a => match a with
      | ⟨0, _⟩ => rfl | ⟨1, _⟩ => rfl | ⟨2, _⟩ => rfl | ⟨3, _⟩ => rfl | ⟨4, _⟩ => rfl),
    broadcastInDim_apply _ _ _ (ix5 b s g (0 : Fin 1) (0 : Fin 1)) (ix3 b s g) (fun a => match a with
      | ⟨0, _⟩ => rfl | ⟨1, _⟩ => rfl | ⟨2, _⟩ => rfl)]
  exact at3_eq x (ix3 b s g) rfl rfl rfl

/-- The residual the reference forms is `E`. -/
theorem e_eq (A : Args) :
    (shapeCast S8x2048x7168 (truncf .bf16 (subf (shapeCast S8x2048x56x64x2 (extf .f32 (A.w : FVec Ideal S8x2048x7168 .bf16) bitsLt_bf16_f32) shapeCasts_S8x2048x7168_S8x2048x56x64x2) (mulf (subf (sitofp .f32 (andi (Host.shrsi (broadcastInDim S8x2048x56x64x2 ![0, 1, 2, 3, 4] bcast_S8x2048x56x64x1_S8x2048x56x64x2_0_1_2_3_4 (shapeCast _ (extui 32 A.cd natLt_8_32) shapeCasts_S8x2048x3584_S8x2048x56x64x1)) (broadcastInDim S8x2048x56x64x2 ![0, 1, 2, 3, 4] bcast_S1x1x1x1x2_S8x2048x56x64x2_0_1_2_3_4 (broadcastInDim S1x1x1x1x2 ![4] bcast_S2_S1x1x1x1x2_4 ((fun i => lit0 (S2.rowMajor i)))))) (broadcastInDim S8x2048x56x64x2 ![] bcast_S_S8x2048x56x64x2 (constantI S_ 32 15#32)))) (broadcastInDim S8x2048x56x64x2 ![0, 1, 2, 3, 4] bcast_S8x2048x56x1x1_S8x2048x56x64x2_0_1_2_3_4 (broadcastInDim S8x2048x56x1x1 ![0, 1, 2] bcast_S8x2048x56_S8x2048x56x1x1_0_1_2 (sitofp .f32 (extui 32 A.zp natLt_8_32))))) (broadcastInDim S8x2048x56x64x2 ![0, 1, 2, 3, 4] bcast_S8x2048x56x1x1_S8x2048x56x64x2_0_1_2_3_4 (broadcastInDim S8x2048x56x1x1 ![0, 1, 2] bcast_S8x2048x56_S8x2048x56x1x1_0_1_2 (A.sc : FVec Ideal S8x2048x56 .f32))))) bitsLt_bf16_f32) shapeCasts_S8x2048x56x64x2_S8x2048x7168 : FVec Ideal S8x2048x7168 .bf16)
      = arrE A := by
  funext j
  obtain ⟨b, s, d, rfl⟩ : ∃ b s d, j = ix3 b s d := ⟨_, _, _, eq_ix3 j⟩
  obtain ⟨g, i, h, hd⟩ : ∃ (g : Fin 56) (i : Fin 64) (h : Fin 2), d.val = g.val * 128 + i.val * 2 + h.val :=
    ⟨⟨d.val / 128, by omega⟩, ⟨d.val / 2 % 64, by omega⟩, ⟨d.val % 2, by omega⟩, by show d.val = d.val / 128 * 128 + d.val / 2 % 64 * 2 + d.val % 2; omega⟩
  rw [shapeCast_apply _ _ _ (ix5 b s g i h) (by
    rw [Shape.rowMajor_val_three, Shape.rowMajor_val_five]
    show (((b.val * 2048 + s.val) * 56 + g.val) * 64 + i.val) * 2 + h.val = (b.val * 2048 + s.val) * 7168 + d.val
    omega), truncf_apply, subf_apply, mulf_apply, subf_apply, codes_apply, group_apply, group_apply,
    shapeCast_apply _ shapeCasts_S8x2048x7168_S8x2048x56x64x2 _ (ix3 b s d) (by
      rw [Shape.rowMajor_val_three, Shape.rowMajor_val_five]
      show (b.val * 2048 + s.val) * 7168 + d.val = (((b.val * 2048 + s.val) * 56 + g.val) * 64 + i.val) * 2 + h.val
      omega), extf_apply, at3_eq A.w (ix3 b s d) rfl rfl rfl]
  show _ = E A b.val s.val d.val
  unfold E
  rw [show d.val / 2 = g.val * 64 + i.val by omega, show d.val % 2 = h.val by omega, show d.val / 128 = g.val by omega]
  rfl

/-! ## The run -/

variable (m : (ℓ : Loc nD τ sig) → Buf (Elt Ideal) ℓ) (ρ : Dev nD → PrngReg)

/-- The arguments a memory holds. -/
def argsOf (c : Dev nD) : Args where
  w := m ((c.tc : Thread nD τ).loc main_arg0)
  cd := m ((c.tc : Thread nD τ).loc main_arg1)
  sc := m ((c.tc : Thread nD τ).loc main_arg2)
  zp := m ((c.tc : Thread nD τ).loc main_arg3)
  om := m ((c.tc : Thread nD τ).loc main_arg4)

/-- The reference's results are the mathematics of its arguments, which end unchanged. -/
theorem run : θ_run defs (onTc (τ := τ) (main (F := Ideal))) ⟨m, fun _ => 0, ρ⟩ fun r => ∀ c : Dev nD,
      r.2.mem ((c.tc : Thread nD τ).loc main_v26) = arrY (argsOf m c)
      ∧ r.2.mem ((c.tc : Thread nD τ).loc main_v28) = arrZ (argsOf m c)
      ∧ r.2.mem ((c.tc : Thread nD τ).loc main_v22) = arrY0 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h26, h28, h22, ha⟩ := h c
  have he := e_eq (argsOf m c)
  refine ⟨h26.trans ?_, h28.trans ?_, h22.trans ?_, ha⟩
  · refine Eq.trans ?_ (y_eq (argsOf m c))
    rw [← p_eq, ← y0_eq, ← he]; rfl
  · refine Eq.trans ?_ (z_eq (argsOf m c))
    rw [← y_eq, ← p_eq, ← y0_eq, ← he]; rfl
  · refine Eq.trans ?_ (y0_eq (argsOf m c))
    rw [← he]; rfl

end Cert.ReferenceIdeal.RefValue

end
-- ==== Proof.lean ====
module

public import proofs.«01_k».proof.Defs
public import proofs.«01_k».proof.Proof.KernelFrame
public import proofs.«01_k».proof.Proof.Out
public import proofs.«01_k».proof.Proof.RefValue

@[expose] public section

noncomputable section

namespace Cert.Proof

open Idealize.ShloMosaic Idealize.SL.Sem

/-- The idealized kernel terminates with its arguments unchanged and its counters at zero. -/
theorem frame_ideal : Cert.quiescent_KernelIdeal (hKernelIdeal := Cert.KernelIdeal.Gen.facts) :=
  fun m g _ => Cert.KernelIdeal.Tiles.frame (F := Ideal) m g

/-- So does the kernel as printed. -/
theorem frame_kernel : Cert.quiescent_Kernel (hKernel := Cert.Kernel.Gen.facts) :=
  fun m g _ => Cert.KernelIdeal.Tiles.frameKernel m g

/-- So does the reference. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩)
    (Cert.ReferenceIdeal.Value.run (F := Ideal) m g)

/-- Memories that agree on the arguments hold the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefValue.argsOf m' c = Cert.KernelIdeal.Tiles.argsOf m c := by
  obtain ⟨h0, h1, h2, h3, h4⟩ := h
  unfold Cert.ReferenceIdeal.RefValue.argsOf Cert.KernelIdeal.Tiles.argsOf
  exact (Cert.Spec.Args.mk.injEq ..).mpr ⟨h0, h1, h2, h3, h4⟩

/-- Over the extended reals kernel and reference end with the same `y`, `z` and `y0`. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => Cert.ReferenceIdeal.RefValue.arrY (Cert.KernelIdeal.Tiles.argsOf m c),
    fun c => Cert.ReferenceIdeal.RefValue.arrZ (Cert.KernelIdeal.Tiles.argsOf m c),
    fun c => Cert.ReferenceIdeal.RefValue.arrY0 (Cert.KernelIdeal.Tiles.argsOf m c),
    Cert.KernelIdeal.Tiles.run m g,
    (θ_run Cert.ReferenceIdeal.defs _ _).mono (fun r h c => by
      have e := args_eq m m' c (hm c)
      obtain ⟨hy, hz, hy0, ha⟩ := h c
      rw [e] at hy hz hy0
      exact ⟨hy, hz, hy0, ha⟩) (Cert.ReferenceIdeal.RefValue.run m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
